-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21_0) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x5120 : Shape := ⟨3, ![6, 1024, 5120]⟩
abbrev S_ : Shape := ⟨0, ![]⟩
abbrev S6x1024x6912 : Shape := ⟨3, ![6, 1024, 6912]⟩
abbrev S5120x6912 : Shape := ⟨2, ![5120, 6912]⟩
abbrev S6144x5120 : Shape := ⟨2, ![6144, 5120]⟩
abbrev S6144x6912 : Shape := ⟨2, ![6144, 6912]⟩
abbrev S1x1 : Shape := ⟨2, ![1, 1]⟩
abbrev S256x6912 : Shape := ⟨2, ![256, 6912]⟩
abbrev S16x6912 : Shape := ⟨2, ![16, 6912]⟩
abbrev S16x16x6912 : Shape := ⟨3, ![16, 16, 6912]⟩
abbrev S1x16x6912 : Shape := ⟨3, ![1, 16, 6912]⟩
abbrev S1 : Shape := ⟨1, ![1]⟩
abbrev S1x1x1 : Shape := ⟨3, ![1, 1, 1]⟩
abbrev S254 : Shape := ⟨1, ![254]⟩
abbrev S6144x1024 : Shape := ⟨2, ![6144, 1024]⟩
abbrev S6144x768 : Shape := ⟨2, ![6144, 768]⟩
abbrev S1024x768 : Shape := ⟨2, ![1024, 768]⟩

abbrev nBuf : Space → Nat
  | .hbm => 55
  | .vmem => 15
  | .smem => 3
  | _ => 0

abbrev bufTy : (tb : Table) → Fin (tcTables nBuf tb) → BufTy
  | .hbm, ⟨0, _⟩ => ⟨S6x1024x5120, .fp8e4m3⟩
  | .hbm, ⟨1, _⟩ => ⟨S_, .f32⟩
  | .hbm, ⟨2, _⟩ => ⟨S6x1024x6912, .bf16⟩
  | .hbm, ⟨3, _⟩ => ⟨S5120x6912, .f32⟩
  | .hbm, ⟨4, _⟩ => ⟨S6144x5120, .fp8e4m3⟩
  | .hbm, ⟨5, _⟩ => ⟨S6144x6912, .bf16⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S254, .i32⟩
  | .hbm, ⟨13, _⟩ => ⟨S_, .i32⟩
  | .hbm, ⟨14, _⟩ => ⟨S254, .i32⟩
  | .hbm, ⟨15, _⟩ => ⟨S254, .i32⟩
  | .hbm, ⟨16, _⟩ => ⟨S_, .i32⟩
  | .hbm, ⟨17, _⟩ => ⟨S254, .i32⟩
  | .hbm, ⟨18, _⟩ => ⟨S254, .i32⟩
  | .hbm, ⟨19, _⟩ => ⟨S254, .f32⟩
  | .hbm, ⟨20, _⟩ => ⟨S254, .f32⟩
  | .hbm, ⟨21, _⟩ => ⟨S254, .i1⟩
  | .hbm, ⟨22, _⟩ => ⟨S254, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S1x1, .f32⟩
  | .hbm, ⟨50, _⟩ => ⟨S6144x6912, .fp8e5m2⟩
  | .hbm, ⟨51, _⟩ => ⟨S_, .f32⟩
  | .hbm, ⟨52, _⟩ => ⟨S1x1, .f32⟩
  | .hbm, ⟨53, _⟩ => ⟨S5120x6912, .f32⟩
  | .hbm, ⟨54, _⟩ => ⟨S6x1024x6912, .fp8e5m2⟩
  | .local _ .vmem, ⟨0, _⟩ => ⟨S256x6912, .bf16⟩
  | .local _ .vmem, ⟨1, _⟩ => ⟨S256x6912, .bf16⟩
  | .local _ .vmem, ⟨2, _⟩ => ⟨S16x6912, .bf16⟩
  | .local _ .vmem, ⟨3, _⟩ => ⟨S256x6912, .bf16⟩
  | .local _ .vmem, ⟨4, _⟩ => ⟨S256x6912, .bf16⟩
  | .local _ .vmem, ⟨5, _⟩ => ⟨S256x6912, .fp8e5m2⟩
  | .local _ .vmem, ⟨6, _⟩ => ⟨S256x6912, .fp8e5m2⟩
  | .local _ .vmem, ⟨7, _⟩ => ⟨S6144x1024, .fp8e4m3⟩
  | .local _ .vmem, ⟨8, _⟩ => ⟨S6144x1024, .fp8e4m3⟩
  | .local _ .vmem, ⟨9, _⟩ => ⟨S6144x768, .fp8e5m2⟩
  | .local _ .vmem, ⟨10, _⟩ => ⟨S6144x768, .fp8e5m2⟩
  | .local _ .vmem, ⟨11, _⟩ => ⟨S1024x768, .f32⟩
  | .local _ .vmem, ⟨12, _⟩ => ⟨S1024x768, .f32⟩
  | .local _ .vmem, ⟨13, _⟩ => ⟨S1024x768, .f32⟩
  | .local _ .vmem, ⟨14, _⟩ => ⟨S1024x768, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S6x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_c_5 : Ref sig .tc := ⟨.hbm, 30, rfl⟩
abbrev main_call0_v0 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_c_7 : Ref sig .tc := ⟨.hbm, 35, rfl⟩
abbrev main_call1_v0 : Ref sig .tc := ⟨.hbm, 36, rfl⟩
abbrev main_v21 : Ref sig .tc := ⟨.hbm, 37, rfl⟩
abbrev main_c_8 : Ref sig .tc := ⟨.hbm, 38, rfl⟩
abbrev main_v22 : Ref sig .tc := ⟨.hbm, 39, rfl⟩
abbrev main_c_9 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_10 : Ref sig .tc := ⟨.hbm, 44, rfl⟩
abbrev main_v26 : Ref sig .tc := ⟨.hbm, 45, rfl⟩
abbrev main_c_11 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc0_stg1_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := ⟨1, ![24], ![false]⟩

def k0_cond3 (i : grid0.Coords) : BitVec 1 :=
  let arg0 : BitVec 32 := BitVec.ofNat 32 (i 0).val
  let c23_i32 : BitVec 32 := 23#32
  let v11 : BitVec 1 := Scalar.cmpi .eq arg0 c23_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x6912 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x6912 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![5, 9], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S6144x1024 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S6144x768 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S6x1024x5120 : Shape := ⟨3, ![6, 1024, 5120]⟩
abbrev S_ : Shape := ⟨0, ![]⟩
abbrev S6x1024x6912 : Shape := ⟨3, ![6, 1024, 6912]⟩
abbrev S5120x6912 : Shape := ⟨2, ![5120, 6912]⟩
abbrev S1x1 : Shape := ⟨2, ![1, 1]⟩

abbrev nBuf : Space → Nat
  | .hbm => 40
  | .vmem => 5
  | .smem => 3
  | _ => 0

abbrev bufTy : (tb : Table) → Fin (tcTables nBuf tb) → BufTy
  | .hbm, ⟨0, _⟩ => ⟨S6x1024x5120, .fp8e4m3⟩
  | .hbm, ⟨1, _⟩ => ⟨S_, .f32⟩
  | .hbm, ⟨2, _⟩ => ⟨S6x1024x6912, .bf16⟩
  | .hbm, ⟨3, _⟩ => ⟨S5120x6912, .f32⟩
  | .hbm, ⟨4, _⟩ => ⟨S6x1024x6912, .f32⟩
  | .hbm, ⟨5, _⟩ => ⟨S6x1024x6912, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S_, .f32⟩
  | .hbm, ⟨13, _⟩ => ⟨S_, .i1⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .i32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x1, .f32⟩
  | .hbm, ⟨36, _⟩ => ⟨S1x1, .f32⟩
  | .hbm, ⟨37, _⟩ => ⟨S1x1, .f32⟩
  | .hbm, ⟨38, _⟩ => ⟨S5120x6912, .f32⟩
  | .hbm, ⟨39, _⟩ => ⟨S6x1024x6912, .fp8e5m2⟩
  | .local _ .vmem, ⟨0, _⟩ => ⟨S6x1024x5120, .fp8e4m3⟩
  | .local _ .vmem, ⟨1, _⟩ => ⟨S6x1024x6912, .bf16⟩
  | .local _ .vmem, ⟨2, _⟩ => ⟨S5120x6912, .f32⟩
  | .local _ .vmem, ⟨3, _⟩ => ⟨S5120x6912, .f32⟩
  | .local _ .vmem, ⟨4, _⟩ => ⟨S6x1024x6912, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S6x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_c_6 : Ref sig .tc := ⟨.hbm, 27, rfl⟩
abbrev main_call1_v0 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_v16 : Ref sig .tc := ⟨.hbm, 32, rfl⟩
abbrev main_cst_8 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1024x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1024x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1024x6912 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Bodies.lean ====
/- The three kernel bodies of `Cert.Kernel`, each run once on any staging buffers, with what it leaves NAMED by the
   skeleton's payloads (`Gen.kK_payN`), and the proof data of the three pipelines that follows from them. Everything is
   stated at a parameter `V`, the contents of the core's buffers when the region is entered, and at any float
   interpretation `F`.
   Region 0 (the largest |dy|) carries a scratch buffer from point to point: its contents after point `n` are `acc n`.
   Regions 1 (the quantiser) and 2 (the product) write each block from the blocks read at the same point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The bodies -/

/-- The one index of a 1 × 1 array. -/
abbrev o11 : S1x1.Idx := fun a => ⟨0, by fin_cases a <;> decide⟩
/-- It is the only one. -/
theorem eq_o11 (j : S1x1.Idx) : j = o11 := by
  funext a
  have h := (j a).isLt
  apply Fin.ext
  fin_cases a <;> exact Nat.lt_one_iff.mp h

/-- The quantiser's body on any whole staging buffers: from the block `x1` and the inverse scale it reads in `x0`, it leaves
    `k1_pay1` of them in the output's buffer, whatever that held, and the inputs' buffers as they were. -/
theorem quant_body (c : Dev nD) (i : grid1.Coords) (arg1 : Memref sig .tc .smem S1x1 .f32) (harg1 : arg1.IsWhole)
    (arg2 : Memref sig .tc .vmem S256x6912 .bf16) (harg2 : arg2.IsWhole) (arg3 : Memref sig .tc .vmem S256x6912 .fp8e5m2) (harg3 : arg3.IsWhole)
    (x0 : Vec F S1x1 .f32) (x1 : Vec F S256x6912 .bf16) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 (x0 o11))) -∗ K ⟨⟩))
      ⊢ wp frame (wpE (defs₀ (F := F)) Variants.none c none) E (cc1_quant i arg1 harg1 arg2 harg2 arg3 harg3) K := by
  simp only [cc1_quant_eq_skeleton]; unfold cc1_quant_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_full, View.readAt_full, harg2.read_unread]
  congr 1
  unfold quant_body.sl.r
  rw [View.readAt_full, harg1.read_unread]
  exact congrArg x0 (eq_o11 _)

/-- The product's body on any whole staging buffers: from the scale in `x0`, the blocks `x1` and `x2` to be contracted and
    the block `x3` to be added to, it leaves `k2_pay1` of them in the output's buffer, and the inputs' buffers as they were. -/
theorem wgrad_body (c : Dev nD) (i : grid2.Coords) (arg2 : Memref sig .tc .smem S1x1 .f32) (harg2 : arg2.IsWhole)
    (arg3 : Memref sig .tc .vmem S6144x1024 .fp8e4m3) (harg3 : arg3.IsWhole) (arg4 : Memref sig .tc .vmem S6144x768 .fp8e5m2) (harg4 : arg4.IsWhole)
    (arg5 : Memref sig .tc .vmem S1024x768 .f32) (harg5 : arg5.IsWhole) (arg6 : Memref sig .tc .vmem S1024x768 .f32) (harg6 : arg6.IsWhole)
    (x0 : Vec F S1x1 .f32) (x1 : Vec F S6144x1024 .fp8e4m3) (x2 : Vec F S6144x768 .fp8e5m2) (x3 : Vec F S1024x768 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay1 x1 x2 x3 (x0 o11))) -∗ K ⟨⟩))
      ⊢ wp frame (wpE (defs₀ (F := F)) Variants.none c none) E (cc2_wgrad i arg2 harg2 arg3 harg3 arg4 harg4 arg5 harg5 arg6 harg6) K := by
  simp only [cc2_wgrad_eq_skeleton]; unfold cc2_wgrad_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_full]
  rw [View.readAt_full, View.readAt_full, View.readAt_full, harg3.read_unread, harg4.read_unread, harg5.read_unread]
  congr 1
  unfold wgrad_body.sl.r
  rw [View.readAt_full, harg2.read_unread]
  exact congrArg x0 (eq_o11 _)

/-- The conditions of the first body's three branches, from the grid coordinate: the first point, every later point, the
    last point. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := (Scalar.cmpi .ne (Scalar.extui (Scalar.cmpi .sgt (BitVec.ofNat 32 (i 0).val) 0#32)) 0#32) = 1#1
abbrev cond0_2 (i : grid0.Coords) : Prop := k0_cond3 i = 1#1
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ 1 ≤ t.val :=
  (by decide +kernel : ∀ t : Fin grid0.N, cond0_1 (grid0.coords t) ↔ 1 ≤ t.val)
theorem hcond0_2 : ∀ t : Fin cfg0.N, cond0_2 (grid0.coords t) ↔ t.val = 23 :=
  (by decide +kernel : ∀ t : Fin grid0.N, cond0_2 (grid0.coords t) ↔ t.val = 23)

/-- The first body at the first point: the scratch, whatever it held, is left at the block's own maxima `k0_pay2`; the
    output's buffer is not touched. -/
theorem amax_first (c : Dev nD) (i : grid0.Coords) (arg1 : Memref sig .tc .vmem S256x6912 .bf16) (harg1 : arg1.IsWhole)
    (arg2 : Memref sig .tc .smem S1x1 .f32) (harg2 : arg2.IsWhole) (arg3 : Memref sig .tc .vmem S16x6912 .bf16) (harg3 : arg3.IsWhole)
    (hc0 : cond0_0 i) (hc1 : ¬cond0_1 i) (hc2 : ¬cond0_2 i) (x0 : Vec F S256x6912 .bf16) (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay2 x0)) -∗ K ⟨⟩))
      ⊢ wp frame (wpE (defs₀ (F := F)) Variants.none c none) E (cc0_amax i arg1 harg1 arg2 harg2 arg3 harg3) K := by
  simp only [cc0_amax_eq_skeleton]; unfold cc0_amax_skel
  unfold owns
  iintro ⟨⟨%f0, %hf0, H0⟩, ⟨%ds0, %fs0, -, HS0⟩, Hk⟩
  obtain rfl := harg1.eq_unread hf0
  sl_exec (disch := first | sl_exact hc0 | sl_exact hc1 | sl_exact hc2)
  sl_step
  iapply Hk
  isplitl [H0]
  · iexists _; isplitr; · ipureintro; exact harg1.read_unread _
    iexact H0
  iexists _; isplitr
  swap; · iexact HS0
  ipureintro
  rw [View.read_writes_full, View.readAt_full, harg1.read_unread]

/-- The first body at a point that is neither the first nor the last: the scratch goes from `xs` to the entrywise maximum
    of `xs` and the block's maxima, `k0_pay3`; the output's buffer is not touched. -/
theorem amax_middle (c : Dev nD) (i : grid0.Coords) (arg1 : Memref sig .tc .vmem S256x6912 .bf16) (harg1 : arg1.IsWhole)
    (arg2 : Memref sig .tc .smem S1x1 .f32) (harg2 : arg2.IsWhole) (arg3 : Memref sig .tc .vmem S16x6912 .bf16) (harg3 : arg3.IsWhole)
    (hc0 : ¬cond0_0 i) (hc1 : cond0_1 i) (hc2 : ¬cond0_2 i) (x0 : Vec F S256x6912 .bf16) (xs : Vec F S16x6912 .bf16)
    (E : Set ℕ) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k0_pay3 x0 xs)) -∗ K ⟨⟩))
      ⊢ wp frame (wpE (defs₀ (F := F)) Variants.none c none) E (cc0_amax i arg1 harg1 arg2 harg2 arg3 harg3) K := by
  simp only [cc0_amax_eq_skeleton]; unfold cc0_amax_skel
  unfold owns
  iintro ⟨⟨%f0, %hf0, H0⟩, ⟨%fs0, %hfs0, HS0⟩, Hk⟩
  obtain rfl := harg1.eq_unread hf0; obtain rfl := harg3.eq_unread hfs0
  sl_exec (disch := first | sl_exact hc0 | sl_exact hc1 | sl_exact hc2)
  sl_step
  iapply Hk
  isplitl [H0]
  · iexists _; isplitr; · ipureintro; exact harg1.read_unread _
    iexact H0
  iexists _; isplitr
  swap; · iexact HS0
  ipureintro
  rw [View.read_writes_full, View.readAt_full, View.readAt_full, harg1.read_unread, harg3.read_unread]

/-- The first body at the last point: the scratch as at a middle point, and the largest of its entries, `k0_pay4`, in the
    output's buffer. -/
theorem amax_last (c : Dev nD) (i : grid0.Coords) (arg1 : Memref sig .tc .vmem S256x6912 .bf16) (harg1 : arg1.IsWhole)
    (arg2 : Memref sig .tc .smem S1x1 .f32) (harg2 : arg2.IsWhole) (arg3 : Memref sig .tc .vmem S16x6912 .bf16) (harg3 : arg3.IsWhole)
    (hc0 : ¬cond0_0 i) (hc1 : cond0_1 i) (hc2 : cond0_2 i) (x0 : Vec F S256x6912 .bf16) (xs : Vec F S16x6912 .bf16)
    (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (fun _ => k0_pay4 (k0_pay3 x0 xs))
            ∗ owns (c : Thread nD τ) arg3 fullShare (k0_pay3 x0 xs)) -∗ K ⟨⟩))
      ⊢ wp frame (wpE (defs₀ (F := F)) Variants.none c none) E (cc0_amax i arg1 harg1 arg2 harg2 arg3 harg3) K := by
  simp only [cc0_amax_eq_skeleton]; unfold cc0_amax_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr
    swap; · iexact H1
    ipureintro
    rw [View.read_writes_full]
    unfold amax_last.sl.v14 amax_last.sl.HS0_1
    rw [View.readCov_full, View.readAt_full, View.readAt_full, harg1.read_unread, harg3.read_unread]
    rfl
  iexists _; isplitr
  swap; · iexact HS0
  ipureintro
  unfold amax_last.sl.HS0_1
  rw [View.read_writes_full, View.readAt_full, View.readAt_full, harg1.read_unread, harg3.read_unread]

section Regions
-- `V`: the core's buffer contents when a region is entered.
variable (V : (c : Dev nD) → (b : Ref sig .tc) → Buf (Elt F) ((c : Thread nD τ).loc b))

/-! ## The windows' blocks, and that an input's buffer holds its block at every point

`iblkK V c w t` is window `w`'s block at point `t` of region K, read off its array as the region finds it. The lemmas
`beforeK_w_of` hold for any proof data over `V`'s arrays whose body leaves an input's block in place. -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## Region 0 -/

/-- The scratch after point `n`: the block's maxima at the first point, then at each point the entrywise maximum of what
    the point before left and the block's maxima. -/
def acc (c : Dev nD) : (n : ℕ) → n < cfg0.N → Vec F S16x6912 .bf16
  | 0, hn => k0_pay2 (iblk0 V c 0 ⟨0, hn⟩)
  | n + 1, hn => k0_pay3 (iblk0 V c 0 ⟨n + 1, hn⟩) (acc c n (Nat.lt_of_succ_lt hn))

theorem acc_first (c : Dev nD) (t : Fin cfg0.N) (h : t.val = 0) : acc V c t.val t.isLt = k0_pay2 (iblk0 V c 0 t) := by
  obtain ⟨n, hn⟩ := t; cases n with
  | zero => rfl
  | succ n => exact absurd h (Nat.succ_ne_zero n)
theorem acc_later (c : Dev nD) (t : Fin cfg0.N) (h : t.val ≠ 0) :
    acc V c t.val t.isLt = k0_pay3 (iblk0 V c 0 t) (acc V c (t.val - 1) (Nat.lt_of_le_of_lt (Nat.sub_le _ _) t.isLt)) := by
  obtain ⟨n, hn⟩ := t; cases n with
  | zero => exact absurd rfl h
  | succ n => rfl

/-- The scratch buffer as the body is passed it. -/
abbrev scM : Memref sig .tc .vmem S16x6912 .bf16 := Memref.whole cc0_scratch0

/-- The core's other scoped buffers: what is left of region 0's scoped rest beside the scratch. -/
theorem rest_exists (c : Dev nD) : ∃ P : sProp 𝕄, (Pipeline.scopedRest spec0 c : sProp 𝕄) = iprop((∃ d, owns (c : Thread nD τ) scM fullShare d) ∗ P) :=
  ⟨_, by rw [scopedRest0_eq]; simp only [scM, owns_whole]; rfl⟩
def rest (c : Dev nD) : sProp 𝕄 := (rest_exists (F := F) c).choose
theorem rest_eq (c : Dev nD) : (Pipeline.scopedRest spec0 c : sProp 𝕄) = iprop((∃ d, owns (c : Thread nD τ) scM fullShare d) ∗ rest (F := F) c) :=
  (rest_exists (F := F) c).choose_spec

/-- The invariant before point `n`: before the first point every scoped buffer at anything; afterwards the scratch at what
    the point before left, the others at anything; and the generator register at some state. -/
def PhiS (c : Dev nD) : (n : ℕ) → n ≤ cfg0.N → sProp 𝕄
  | 0, _ => Pipeline.ΦA spec0 c
  | n + 1, hn => iprop((owns (c : Thread nD τ) scM fullShare (acc V c n hn) ∗ rest (F := F) c) ∗ (∃ r, prngReg c r))
theorem PhiS_zero (c : Dev nD) (n : ℕ) (h : n ≤ cfg0.N) (hz : n = 0) :
    PhiS V c n h = iprop(((∃ d, owns (c : Thread nD τ) scM fullShare d) ∗ rest (F := F) c) ∗ (∃ r, prngReg c r)) := by
  subst hz; show Pipeline.ΦA spec0 c = _; unfold Pipeline.ΦA; rw [rest_eq]
theorem PhiS_succ (c : Dev nD) (n : ℕ) (hn : n < cfg0.N) :
    PhiS V c (n + 1) hn = iprop((owns (c : Thread nD τ) scM fullShare (acc V c n hn) ∗ rest (F := F) c) ∗ (∃ r, prngReg c r)) := rfl
theorem PhiS_pos (c : Dev nD) (n : ℕ) (h : n ≤ cfg0.N) (hz : n ≠ 0) :
    PhiS V c n h = iprop((owns (c : Thread nD τ) scM fullShare (acc V c (n - 1) (by omega)) ∗ rest (F := F) c) ∗ (∃ r, prngReg c r)) := by
  cases n with
  | zero => exact absurd rfl hz
  | succ n => rfl

/-- The invariant after the last point gives back the scoped rest at anything. -/
theorem PhiS_last (c : Dev nD) (n : ℕ) (h : n ≤ cfg0.N) : PhiS V c n h ⊢ (Pipeline.ΦA spec0 c : sProp 𝕄) := by
  cases n with
  | zero => exact .rfl
  | succ n =>
    rw [PhiS_succ]; unfold Pipeline.ΦA; rw [rest_eq]
    iintro ⟨⟨H, Hr⟩, Hp⟩
    isplitl [H Hr]
    · isplitl [H]; · iexists _; iexact H
      iexact Hr
    iexact Hp

/-- Region 0's proof data: the input's buffer at its block after every point; the output's buffer, written at the last
    point alone, at the largest entry of the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => fun _ => k0_pay4 (acc V c t.val t.isLt)
  Φ t := PhiS V c t.val (Nat.le_of_lt_succ t.isLt)
  q _ := fullShare
  owed _ := 0
theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = fun _ => k0_pay4 (acc V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem PhiS_castSucc (c : Dev nD) (t : Fin cfg0.N) : (dat0 V c).Φ t.castSucc = PhiS V c t.val (Nat.le_of_lt t.isLt) := by
  dsimp only [dat0]; exact Pipeline.Dat.Φ_castSucc (PhiS V c) t

abbrev ms0_0 (t : Fin cfg0.N) : Memref sig .tc .vmem S256x6912 .bf16 := win0_0.stage (cfg0.slots t 0)
abbrev ms0_1 (t : Fin cfg0.N) : Memref sig .tc .smem S1x1 .f32 := win0_1.stage (cfg0.slots t 1)

/-- Where the output is idle (every point but the last) its buffer is handed back as found. -/
theorem leaves0_1_idle (c : Dev nD) (t : Fin cfg0.N) (h : t.val ≠ 23) :
    (dat0 V c).leavesExact 1 t = iprop(∃ d, owns (c : Thread nD τ) (ms0_1 t) fullShare ((dat0 V c).before 1 t d)) := by
  refine (dat0 V c).leavesExact_idle 1 t ?_ ?_
  · show (!(k0_cond3 (grid0.coords t) == 1#1)) = true
    rw [Bool.not_eq_true', beq_eq_false_iff_ne]
    exact fun e => h ((hcond0_2 t).mp e)
  · rw [Bool.eq_false_iff]
    have hN : t.val < 24 := lt_of_lt_of_eq t.isLt (show cfg0.N = 24 from N_0)
    exact fun e => h (by have := (flush0_1 t).mp e; omega)
theorem leaves0_1_last (c : Dev nD) (t : Fin cfg0.N) (h : t.val = 23) :
    (dat0 V c).leavesExact 1 t = owns (c : Thread nD τ) (ms0_1 t) fullShare ((dat0 V c).after 1 t) := by
  unfold Dat.leavesExact
  rw [show cfg0.idle 1 (cfg0.grid.coords t) = false from by
    show (!(k0_cond3 (grid0.coords t) == 1#1)) = false
    rw [Bool.not_eq_false', beq_iff_eq]
    exact (hcond0_2 t).mpr h]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))
def bodyPost0 (c : Dev nD) (t : Fin cfg0.N) : sProp 𝕄 :=
  iprop((dat0 V c).Φ t.succ ∗ (dat0 V c).owesAt () t.succ ∗ (dat0 V c).leavesExact 0 t ∗ (dat0 V c).leavesExact 1 t)

/-- The body at any point of region 0, by the three cases. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 24 := lt_of_lt_of_eq t.isLt (show cfg0.N = 24 from N_0)
  unfold bodyPre0 bodyPost0 bodyAt0
  simp only [before0_0]
  rw [show (dat0 V c).owesAt () t.succ = (dat0 V c).owesAt () t.castSucc from rfl,
    show (dat0 V c).Φ t.succ = PhiS V c (t.val + 1) t.isLt from rfl, PhiS_succ, PhiS_castSucc,
    show (dat0 V c).leavesExact 0 t = owns (c : Thread nD τ) (ms0_0 t) fullShare ((dat0 V c).after 0 t) from rfl, after0_0]
  by_cases h0 : t.val = 0
  · rw [PhiS_zero V c _ _ h0, acc_first V c t h0, leaves0_1_idle V c t (by omega)]
    iintro ⟨⟨⟨HS, Hr⟩, Hg⟩, Ho, ⟨%d0, H0⟩, H1⟩
    iapply (amax_first c (grid0.coords t) _ _ _ _ _ _ ((hcond0_0 t).mpr h0) (fun h => absurd ((hcond0_1 t).mp h) (by omega))
      (fun h => absurd ((hcond0_2 t).mp h) (by omega)) (iblk0 V c 0 t) Set.univ _)
    isplitl [H0]; · iexact H0
    isplitl [HS]; · iexact HS
    iintro ⟨H0, HS⟩
    isplitl [HS Hr Hg]
    · isplitl [HS Hr]
      · isplitl [HS]; · iexact HS
        iexact Hr
      iexact Hg
    isplitl [Ho]; · iexact Ho
    isplitl [H0]; · iexact H0
    iexact H1
  · rw [PhiS_pos V c _ _ h0, acc_later V c t h0]
    by_cases h2 : t.val = 23
    · rw [leaves0_1_last V c t h2, after0_1, acc_later V c t h0]
      iintro ⟨⟨⟨HS, Hr⟩, Hg⟩, Ho, ⟨%d0, H0⟩, ⟨%d1, H1⟩⟩
      iapply (amax_last c (grid0.coords t) _ _ _ _ _ _ (fun h => h0 ((hcond0_0 t).mp h)) ((hcond0_1 t).mpr (by omega))
        ((hcond0_2 t).mpr h2) (iblk0 V c 0 t) (acc V c (t.val - 1) (Nat.lt_of_le_of_lt (Nat.sub_le _ _) t.isLt)) Set.univ _)
      isplitl [H0]; · iexact H0
      isplitl [H1]; · iexists _; iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
    · rw [leaves0_1_idle V c t h2]
      iintro ⟨⟨⟨HS, Hr⟩, Hg⟩, Ho, ⟨%d0, H0⟩, H1⟩
      iapply (amax_middle c (grid0.coords t) _ _ _ _ _ _ (fun h => h0 ((hcond0_0 t).mp h)) ((hcond0_1 t).mpr (by omega))
        (fun h => h2 ((hcond0_2 t).mp h)) (iblk0 V c 0 t) (acc V c (t.val - 1) (Nat.lt_of_le_of_lt (Nat.sub_le _ _) t.isLt)) Set.univ _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexact H1

theorem defs₀_row0 (t : Fin cfg0.N) : defs₀ (F := F) .tc cfg0.body (cfg0.bodyArgs t (cfg0.slots t)) = bodyAt0 t := by
  unfold defs₀; rw [Defs.onTc_tc]
/-- Region 0's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Region 1 -/

/-- Region 1's proof data: the output's buffer after a point holds the quantised block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) ((iblk1 V c 0 t : Vec F S1x1 .f32) o11)
  Φ _ := Pipeline.ΦA spec1 c
  q _ := fullShare
  owed _ := 0
theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 1 t) ((iblk1 V c 0 t : Vec F S1x1 .f32) o11) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

abbrev ms1_0 (t : Fin cfg1.N) : Memref sig .tc .smem S1x1 .f32 := win1_0.stage (cfg1.slots t 0)
abbrev ms1_1 (t : Fin cfg1.N) : Memref sig .tc .vmem S256x6912 .bf16 := win1_1.stage (cfg1.slots t 1)
abbrev ms1_2 (t : Fin cfg1.N) : Memref sig .tc .vmem S256x6912 .fp8e5m2 := win1_2.stage (cfg1.slots t 2)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point of region 1. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl, after1_0, after1_1, after1_2]
  iintro ⟨HΦ, Ho, ⟨%d0, H0⟩, ⟨%d1, H1⟩, ⟨%d2, H2⟩⟩
  iapply (quant_body c (grid1.coords t) _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) : defs₀ (F := F) .tc cfg1.body (cfg1.bodyArgs t (cfg1.slots t)) = bodyAt1 t := by
  unfold defs₀; rw [Defs.onTc_tc]
/-- Region 1's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## Region 2 -/

/-- Region 2's proof data: the output's buffer after a point holds the tile of the product, scaled and added to. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 1 t) (iblk2 V c 2 t) (iblk2 V c 3 t) ((iblk2 V c 0 t : Vec F S1x1 .f32) o11)
  Φ _ := Pipeline.ΦA spec2 c
  q _ := fullShare
  owed _ := 0
theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 1 t) (iblk2 V c 2 t) (iblk2 V c 3 t) ((iblk2 V c 0 t : Vec F S1x1 .f32) o11) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

abbrev ms2_0 (t : Fin cfg2.N) : Memref sig .tc .smem S1x1 .f32 := win2_0.stage (cfg2.slots t 0)
abbrev ms2_1 (t : Fin cfg2.N) : Memref sig .tc .vmem S6144x1024 .fp8e4m3 := win2_1.stage (cfg2.slots t 1)
abbrev ms2_2 (t : Fin cfg2.N) : Memref sig .tc .vmem S6144x768 .fp8e5m2 := win2_2.stage (cfg2.slots t 2)
abbrev ms2_3 (t : Fin cfg2.N) : Memref sig .tc .vmem S1024x768 .f32 := win2_3.stage (cfg2.slots t 3)
abbrev ms2_4 (t : Fin cfg2.N) : Memref sig .tc .vmem S1024x768 .f32 := win2_4.stage (cfg2.slots t 4)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

/-- The body at any point of region 2. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl, after2_0, after2_1, after2_2, after2_3, after2_4]
  iintro ⟨HΦ, Ho, ⟨%d0, H0⟩, ⟨%d1, H1⟩, ⟨%d2, H2⟩, ⟨%d3, H3⟩, ⟨%d4, H4⟩⟩
  iapply (wgrad_body c (grid2.coords t) _ _ _ _ _ _ _ _ _ _ (iblk2 V c 0 t) (iblk2 V c 1 t) (iblk2 V c 2 t) (iblk2 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row2 (t : Fin cfg2.N) : defs₀ (F := F) .tc cfg2.body (cfg2.bodyArgs t (cfg2.slots t)) = bodyAt2 t := by
  unfold defs₀; rw [Defs.onTc_tc]
/-- Region 2's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Run

end
-- ==== Proof.Kernel.Run.lean ====
/- The run of `Cert.Kernel`'s @main, at any float interpretation: its eleven items are eight stretches of host operations
   and three kernel regions. `W0` … `W11` are the core's buffer contents at the boundaries between them, a fold from the
   launch memory: across a stretch the operations' results (`StableHlo.after`), across a region its arrays at what the
   write-backs leave (`Pipeline.withArrays`). `run` states that @main terminates with every unscoped buffer at `W11` and
   every semaphore counter at zero; `frame` is its consequence for the argument arrays. -/
module

public import proofs.«01_k».proof.Proof.Kernel.Bodies

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays of @main. -/
abbrev argRefs : List (Ref sig .tc) := [main_arg0, main_arg1, main_arg2, main_arg3]

/-! ## The host stretches: none allocates a buffer, and each lists the references its operations write, in order -/

theorem hostOps0_fresh : (hostOps0 : List (HloOp τ sig (Elt F))).Forall fun op => op.fresh = ∅ := by
  simp only [List.Forall]; repeat' constructor
/-- The references `hostOps0` writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The references `hostOps1` writes. -/
abbrev hostOps1_W : List (Ref sig .tc) := [main_v3, main_cst, main_v4, main_cst_0, main_v5, main_v6, main_c, main_v7, main_v8, main_c_1, main_v9, main_v10, main_v11, main_v12, main_v13, main_v14, main_c_2, main_v15, main_c_3, main_v16, main_v17, main_c_4, main_v18, main_c_5]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
/-- The references `hostOps1_1` writes. -/
abbrev hostOps1_1_W : List (Ref sig .tc) := [main_call0_v0, main_v19]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
/-- The references `hostOps1_2` writes. -/
abbrev hostOps1_2_W : List (Ref sig .tc) := [main_cst_6, main_v20, main_c_7]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
/-- The references `hostOps1_3` writes. -/
abbrev hostOps1_3_W : List (Ref sig .tc) := [main_call1_v0, main_v21]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
/-- The references `hostOps1_4` writes. -/
abbrev hostOps1_4_W : List (Ref sig .tc) := [main_c_8, main_v22, main_c_9, main_v23, main_v24, main_v25, main_c_10, main_v26, main_c_11, main_v27, main_v28, main_v29]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps2_fresh : (hostOps2 : List (HloOp τ sig (Elt F))).Forall fun op => op.fresh = ∅ := by
  simp only [List.Forall]; repeat' constructor
/-- The references `hostOps2` writes. -/
abbrev hostOps2_W : List (Ref sig .tc) := [main_v31, main_v32]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
/-- The references `hostOps3` writes. -/
abbrev hostOps3_W : List (Ref sig .tc) := [main_v34]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! ## The buffer contents at the boundaries

`WJ_of` keeps a reference the item before boundary J does not write; `WJ_args` reads the arguments as launched;
`WJ_arr` reads a region's arrays at its exit. -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- Region 0's entry contents at the TensorCore's references. -/
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- Region 0's exit contents at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- Region 1's entry contents at the TensorCore's references. -/
abbrev V7 : (c : Dev nD) → (b : Ref sig .tc) → Buf (Elt F) ((c : Thread nD τ).loc b) := fun c b => W7 m ρ c b
/-- At region 1's exit: its arrays at what its write-backs leave, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- Region 1's exit contents at the TensorCore's references. -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
/-- Region 2's entry contents at the TensorCore's references. -/
abbrev V9 : (c : Dev nD) → (b : Ref sig .tc) → Buf (Elt F) ((c : Thread nD τ).loc b) := fun c b => W9 m ρ c b
/-- At region 2's exit: its arrays at what its write-backs leave, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- Region 2's exit contents at the TensorCore's references. -/
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3`. -/
abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
theorem W11_args (c : Dev nD) : ∀ a ∈ argRefs, W11 m ρ c (Proc.devRef .tc a) = m ((c : Thread nD τ).loc a) :=
  fun a ha => (W11_of m ρ c a (hostOps3_args a ha)).trans (W10_args m ρ c a ha)
/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W11`, the generator register at some state. -/
abbrev Tₙ (c : Dev nD) : sProp 𝕄 := iprop(StableHlo.held (c : Thread nD τ) (Pipeline.ucRefs τ sig) (W11 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from PhiS_last (V1 m ρ) c cfg0.N (Nat.le_refl _)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W9`, left at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ),
    .host (hseg hostOps3 hostOps3_sub hostOps3_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- @main terminates from any memory with zero counters, nothing faulting, and every final state has every unscoped buffer
    at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨fun c => h c, funext fun g => hz g (.inr (no_unscoped g.2))⟩)

/-- The argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    have ha (a : Ref sig .tc) (hu : ¬ (Proc.devRef .tc a : DevRef τ sig).isScoped) (hm : a ∈ argRefs) :
        r.2.mem ((c.tc : Thread nD τ).loc a) = m ((c.tc : Thread nD τ).loc a) := (h.1 c _ (mem_uc a hu)).trans (W11_args m ρ c a hm)
    ⟨ha main_arg0 (by decide) (by decide), ha main_arg1 (by decide) (by decide), ha main_arg2 (by decide) (by decide),
     ha main_arg3 (by decide) (by decide)⟩, h.2⟩) (run m ρ)

end Cert.Kernel.Run

end
-- ==== Proof.KernelIdeal.Bodies.lean ====
/- The three kernel bodies of `Cert.KernelIdeal`, each run once on any staging buffers, with what it leaves NAMED by the
   skeleton's payloads (`Gen.kK_payN`), and the proof data of the three pipelines that follows from them. Everything is
   stated at a parameter `V`, the contents of the core's buffers when the region is entered, and at any float
   interpretation `F`.
   Region 0 (the largest |dy|) carries a scratch buffer from point to point: its contents after point `n` are `acc n`.
   Regions 1 (the quantiser) and 2 (the product) write each block from the blocks read at the same point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The bodies -/

/-- The one index of a 1 × 1 array. -/
abbrev o11 : S1x1.Idx := fun a => ⟨0, by fin_cases a <;> decide⟩
/-- It is the only one. -/
theorem eq_o11 (j : S1x1.Idx) : j = o11 := by
  funext a
  have h := (j a).isLt
  apply Fin.ext
  fin_cases a <;> exact Nat.lt_one_iff.mp h

/-- The quantiser's body on any whole staging buffers: from the block `x1` and the inverse scale it reads in `x0`, it leaves
    `k1_pay1` of them in the output's buffer, whatever that held, and the inputs' buffers as they were. -/
theorem quant_body (c : Dev nD) (i : grid1.Coords) (arg1 : Memref sig .tc .smem S1x1 .f32) (harg1 : arg1.IsWhole)
    (arg2 : Memref sig .tc .vmem S256x6912 .bf16) (harg2 : arg2.IsWhole) (arg3 : Memref sig .tc .vmem S256x6912 .fp8e5m2) (harg3 : arg3.IsWhole)
    (x0 : Vec F S1x1 .f32) (x1 : Vec F S256x6912 .bf16) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 (x0 o11))) -∗ K ⟨⟩))
      ⊢ wp frame (wpE (defs₀ (F := F)) Variants.none c none) E (cc1_quant i arg1 harg1 arg2 harg2 arg3 harg3) K := by
  simp only [cc1_quant_eq_skeleton]; unfold cc1_quant_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_full, View.readAt_full, harg2.read_unread]
  congr 1
  unfold quant_body.sl.r
  rw [View.readAt_full, harg1.read_unread]
  exact congrArg x0 (eq_o11 _)

/-- The product's body on any whole staging buffers: from the scale in `x0`, the blocks `x1` and `x2` to be contracted and
    the block `x3` to be added to, it leaves `k2_pay1` of them in the output's buffer, and the inputs' buffers as they were. -/
theorem wgrad_body (c : Dev nD) (i : grid2.Coords) (arg2 : Memref sig .tc .smem S1x1 .f32) (harg2 : arg2.IsWhole)
    (arg3 : Memref sig .tc .vmem S6144x1024 .fp8e4m3) (harg3 : arg3.IsWhole) (arg4 : Memref sig .tc .vmem S6144x768 .fp8e5m2) (harg4 : arg4.IsWhole)
    (arg5 : Memref sig .tc .vmem S1024x768 .f32) (harg5 : arg5.IsWhole) (arg6 : Memref sig .tc .vmem S1024x768 .f32) (harg6 : arg6.IsWhole)
    (x0 : Vec F S1x1 .f32) (x1 : Vec F S6144x1024 .fp8e4m3) (x2 : Vec F S6144x768 .fp8e5m2) (x3 : Vec F S1024x768 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay1 x1 x2 x3 (x0 o11))) -∗ K ⟨⟩))
      ⊢ wp frame (wpE (defs₀ (F := F)) Variants.none c none) E (cc2_wgrad i arg2 harg2 arg3 harg3 arg4 harg4 arg5 harg5 arg6 harg6) K := by
  simp only [cc2_wgrad_eq_skeleton]; unfold cc2_wgrad_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_full]
  rw [View.readAt_full, View.readAt_full, View.readAt_full, harg3.read_unread, harg4.read_unread, harg5.read_unread]
  congr 1
  unfold wgrad_body.sl.r
  rw [View.readAt_full, harg2.read_unread]
  exact congrArg x0 (eq_o11 _)

/-- The conditions of the first body's three branches, from the grid coordinate: the first point, every later point, the
    last point. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := (Scalar.cmpi .ne (Scalar.extui (Scalar.cmpi .sgt (BitVec.ofNat 32 (i 0).val) 0#32)) 0#32) = 1#1
abbrev cond0_2 (i : grid0.Coords) : Prop := k0_cond3 i = 1#1
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ 1 ≤ t.val :=
  (by decide +kernel : ∀ t : Fin grid0.N, cond0_1 (grid0.coords t) ↔ 1 ≤ t.val)
theorem hcond0_2 : ∀ t : Fin cfg0.N, cond0_2 (grid0.coords t) ↔ t.val = 23 :=
  (by decide +kernel : ∀ t : Fin grid0.N, cond0_2 (grid0.coords t) ↔ t.val = 23)

/-- The first body at the first point: the scratch, whatever it held, is left at the block's own maxima `k0_pay2`; the
    output's buffer is not touched. -/
theorem amax_first (c : Dev nD) (i : grid0.Coords) (arg1 : Memref sig .tc .vmem S256x6912 .bf16) (harg1 : arg1.IsWhole)
    (arg2 : Memref sig .tc .smem S1x1 .f32) (harg2 : arg2.IsWhole) (arg3 : Memref sig .tc .vmem S16x6912 .bf16) (harg3 : arg3.IsWhole)
    (hc0 : cond0_0 i) (hc1 : ¬cond0_1 i) (hc2 : ¬cond0_2 i) (x0 : Vec F S256x6912 .bf16) (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay2 x0)) -∗ K ⟨⟩))
      ⊢ wp frame (wpE (defs₀ (F := F)) Variants.none c none) E (cc0_amax i arg1 harg1 arg2 harg2 arg3 harg3) K := by
  simp only [cc0_amax_eq_skeleton]; unfold cc0_amax_skel
  unfold owns
  iintro ⟨⟨%f0, %hf0, H0⟩, ⟨%ds0, %fs0, -, HS0⟩, Hk⟩
  obtain rfl := harg1.eq_unread hf0
  sl_exec (disch := first | sl_exact hc0 | sl_exact hc1 | sl_exact hc2)
  sl_step
  iapply Hk
  isplitl [H0]
  · iexists _; isplitr; · ipureintro; exact harg1.read_unread _
    iexact H0
  iexists _; isplitr
  swap; · iexact HS0
  ipureintro
  rw [View.read_writes_full, View.readAt_full, harg1.read_unread]

/-- The first body at a point that is neither the first nor the last: the scratch goes from `xs` to the entrywise maximum
    of `xs` and the block's maxima, `k0_pay3`; the output's buffer is not touched. -/
theorem amax_middle (c : Dev nD) (i : grid0.Coords) (arg1 : Memref sig .tc .vmem S256x6912 .bf16) (harg1 : arg1.IsWhole)
    (arg2 : Memref sig .tc .smem S1x1 .f32) (harg2 : arg2.IsWhole) (arg3 : Memref sig .tc .vmem S16x6912 .bf16) (harg3 : arg3.IsWhole)
    (hc0 : ¬cond0_0 i) (hc1 : cond0_1 i) (hc2 : ¬cond0_2 i) (x0 : Vec F S256x6912 .bf16) (xs : Vec F S16x6912 .bf16)
    (E : Set ℕ) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k0_pay3 x0 xs)) -∗ K ⟨⟩))
      ⊢ wp frame (wpE (defs₀ (F := F)) Variants.none c none) E (cc0_amax i arg1 harg1 arg2 harg2 arg3 harg3) K := by
  simp only [cc0_amax_eq_skeleton]; unfold cc0_amax_skel
  unfold owns
  iintro ⟨⟨%f0, %hf0, H0⟩, ⟨%fs0, %hfs0, HS0⟩, Hk⟩
  obtain rfl := harg1.eq_unread hf0; obtain rfl := harg3.eq_unread hfs0
  sl_exec (disch := first | sl_exact hc0 | sl_exact hc1 | sl_exact hc2)
  sl_step
  iapply Hk
  isplitl [H0]
  · iexists _; isplitr; · ipureintro; exact harg1.read_unread _
    iexact H0
  iexists _; isplitr
  swap; · iexact HS0
  ipureintro
  rw [View.read_writes_full, View.readAt_full, View.readAt_full, harg1.read_unread, harg3.read_unread]

/-- The first body at the last point: the scratch as at a middle point, and the largest of its entries, `k0_pay4`, in the
    output's buffer. -/
theorem amax_last (c : Dev nD) (i : grid0.Coords) (arg1 : Memref sig .tc .vmem S256x6912 .bf16) (harg1 : arg1.IsWhole)
    (arg2 : Memref sig .tc .smem S1x1 .f32) (harg2 : arg2.IsWhole) (arg3 : Memref sig .tc .vmem S16x6912 .bf16) (harg3 : arg3.IsWhole)
    (hc0 : ¬cond0_0 i) (hc1 : cond0_1 i) (hc2 : cond0_2 i) (x0 : Vec F S256x6912 .bf16) (xs : Vec F S16x6912 .bf16)
    (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (fun _ => k0_pay4 (k0_pay3 x0 xs))
            ∗ owns (c : Thread nD τ) arg3 fullShare (k0_pay3 x0 xs)) -∗ K ⟨⟩))
      ⊢ wp frame (wpE (defs₀ (F := F)) Variants.none c none) E (cc0_amax i arg1 harg1 arg2 harg2 arg3 harg3) K := by
  simp only [cc0_amax_eq_skeleton]; unfold cc0_amax_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr
    swap; · iexact H1
    ipureintro
    rw [View.read_writes_full]
    unfold amax_last.sl.v14 amax_last.sl.HS0_1
    rw [View.readCov_full, View.readAt_full, View.readAt_full, harg1.read_unread, harg3.read_unread]
    rfl
  iexists _; isplitr
  swap; · iexact HS0
  ipureintro
  unfold amax_last.sl.HS0_1
  rw [View.read_writes_full, View.readAt_full, View.readAt_full, harg1.read_unread, harg3.read_unread]

section Regions
-- `V`: the core's buffer contents when a region is entered.
variable (V : (c : Dev nD) → (b : Ref sig .tc) → Buf (Elt F) ((c : Thread nD τ).loc b))

/-! ## The windows' blocks, and that an input's buffer holds its block at every point

`iblkK V c w t` is window `w`'s block at point `t` of region K, read off its array as the region finds it. The lemmas
`beforeK_w_of` hold for any proof data over `V`'s arrays whose body leaves an input's block in place. -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## Region 0 -/

/-- The scratch after point `n`: the block's maxima at the first point, then at each point the entrywise maximum of what
    the point before left and the block's maxima. -/
def acc (c : Dev nD) : (n : ℕ) → n < cfg0.N → Vec F S16x6912 .bf16
  | 0, hn => k0_pay2 (iblk0 V c 0 ⟨0, hn⟩)
  | n + 1, hn => k0_pay3 (iblk0 V c 0 ⟨n + 1, hn⟩) (acc c n (Nat.lt_of_succ_lt hn))

theorem acc_first (c : Dev nD) (t : Fin cfg0.N) (h : t.val = 0) : acc V c t.val t.isLt = k0_pay2 (iblk0 V c 0 t) := by
  obtain ⟨n, hn⟩ := t; cases n with
  | zero => rfl
  | succ n => exact absurd h (Nat.succ_ne_zero n)
theorem acc_later (c : Dev nD) (t : Fin cfg0.N) (h : t.val ≠ 0) :
    acc V c t.val t.isLt = k0_pay3 (iblk0 V c 0 t) (acc V c (t.val - 1) (Nat.lt_of_le_of_lt (Nat.sub_le _ _) t.isLt)) := by
  obtain ⟨n, hn⟩ := t; cases n with
  | zero => exact absurd rfl h
  | succ n => rfl

/-- The scratch buffer as the body is passed it. -/
abbrev scM : Memref sig .tc .vmem S16x6912 .bf16 := Memref.whole cc0_scratch0

/-- The core's other scoped buffers: what is left of region 0's scoped rest beside the scratch. -/
theorem rest_exists (c : Dev nD) : ∃ P : sProp 𝕄, (Pipeline.scopedRest spec0 c : sProp 𝕄) = iprop((∃ d, owns (c : Thread nD τ) scM fullShare d) ∗ P) :=
  ⟨_, by rw [scopedRest0_eq]; simp only [scM, owns_whole]; rfl⟩
def rest (c : Dev nD) : sProp 𝕄 := (rest_exists (F := F) c).choose
theorem rest_eq (c : Dev nD) : (Pipeline.scopedRest spec0 c : sProp 𝕄) = iprop((∃ d, owns (c : Thread nD τ) scM fullShare d) ∗ rest (F := F) c) :=
  (rest_exists (F := F) c).choose_spec

/-- The invariant before point `n`: before the first point every scoped buffer at anything; afterwards the scratch at what
    the point before left, the others at anything; and the generator register at some state. -/
def PhiS (c : Dev nD) : (n : ℕ) → n ≤ cfg0.N → sProp 𝕄
  | 0, _ => Pipeline.ΦA spec0 c
  | n + 1, hn => iprop((owns (c : Thread nD τ) scM fullShare (acc V c n hn) ∗ rest (F := F) c) ∗ (∃ r, prngReg c r))
theorem PhiS_zero (c : Dev nD) (n : ℕ) (h : n ≤ cfg0.N) (hz : n = 0) :
    PhiS V c n h = iprop(((∃ d, owns (c : Thread nD τ) scM fullShare d) ∗ rest (F := F) c) ∗ (∃ r, prngReg c r)) := by
  subst hz; show Pipeline.ΦA spec0 c = _; unfold Pipeline.ΦA; rw [rest_eq]
theorem PhiS_succ (c : Dev nD) (n : ℕ) (hn : n < cfg0.N) :
    PhiS V c (n + 1) hn = iprop((owns (c : Thread nD τ) scM fullShare (acc V c n hn) ∗ rest (F := F) c) ∗ (∃ r, prngReg c r)) := rfl
theorem PhiS_pos (c : Dev nD) (n : ℕ) (h : n ≤ cfg0.N) (hz : n ≠ 0) :
    PhiS V c n h = iprop((owns (c : Thread nD τ) scM fullShare (acc V c (n - 1) (by omega)) ∗ rest (F := F) c) ∗ (∃ r, prngReg c r)) := by
  cases n with
  | zero => exact absurd rfl hz
  | succ n => rfl

/-- The invariant after the last point gives back the scoped rest at anything. -/
theorem PhiS_last (c : Dev nD) (n : ℕ) (h : n ≤ cfg0.N) : PhiS V c n h ⊢ (Pipeline.ΦA spec0 c : sProp 𝕄) := by
  cases n with
  | zero => exact .rfl
  | succ n =>
    rw [PhiS_succ]; unfold Pipeline.ΦA; rw [rest_eq]
    iintro ⟨⟨H, Hr⟩, Hp⟩
    isplitl [H Hr]
    · isplitl [H]; · iexists _; iexact H
      iexact Hr
    iexact Hp

/-- Region 0's proof data: the input's buffer at its block after every point; the output's buffer, written at the last
    point alone, at the largest entry of the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => fun _ => k0_pay4 (acc V c t.val t.isLt)
  Φ t := PhiS V c t.val (Nat.le_of_lt_succ t.isLt)
  q _ := fullShare
  owed _ := 0
theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = fun _ => k0_pay4 (acc V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem PhiS_castSucc (c : Dev nD) (t : Fin cfg0.N) : (dat0 V c).Φ t.castSucc = PhiS V c t.val (Nat.le_of_lt t.isLt) := by
  dsimp only [dat0]; exact Pipeline.Dat.Φ_castSucc (PhiS V c) t

abbrev ms0_0 (t : Fin cfg0.N) : Memref sig .tc .vmem S256x6912 .bf16 := win0_0.stage (cfg0.slots t 0)
abbrev ms0_1 (t : Fin cfg0.N) : Memref sig .tc .smem S1x1 .f32 := win0_1.stage (cfg0.slots t 1)

/-- Where the output is idle (every point but the last) its buffer is handed back as found. -/
theorem leaves0_1_idle (c : Dev nD) (t : Fin cfg0.N) (h : t.val ≠ 23) :
    (dat0 V c).leavesExact 1 t = iprop(∃ d, owns (c : Thread nD τ) (ms0_1 t) fullShare ((dat0 V c).before 1 t d)) := by
  refine (dat0 V c).leavesExact_idle 1 t ?_ ?_
  · show (!(k0_cond3 (grid0.coords t) == 1#1)) = true
    rw [Bool.not_eq_true', beq_eq_false_iff_ne]
    exact fun e => h ((hcond0_2 t).mp e)
  · rw [Bool.eq_false_iff]
    have hN : t.val < 24 := lt_of_lt_of_eq t.isLt (show cfg0.N = 24 from N_0)
    exact fun e => h (by have := (flush0_1 t).mp e; omega)
theorem leaves0_1_last (c : Dev nD) (t : Fin cfg0.N) (h : t.val = 23) :
    (dat0 V c).leavesExact 1 t = owns (c : Thread nD τ) (ms0_1 t) fullShare ((dat0 V c).after 1 t) := by
  unfold Dat.leavesExact
  rw [show cfg0.idle 1 (cfg0.grid.coords t) = false from by
    show (!(k0_cond3 (grid0.coords t) == 1#1)) = false
    rw [Bool.not_eq_false', beq_iff_eq]
    exact (hcond0_2 t).mpr h]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))
def bodyPost0 (c : Dev nD) (t : Fin cfg0.N) : sProp 𝕄 :=
  iprop((dat0 V c).Φ t.succ ∗ (dat0 V c).owesAt () t.succ ∗ (dat0 V c).leavesExact 0 t ∗ (dat0 V c).leavesExact 1 t)

/-- The body at any point of region 0, by the three cases. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 24 := lt_of_lt_of_eq t.isLt (show cfg0.N = 24 from N_0)
  unfold bodyPre0 bodyPost0 bodyAt0
  simp only [before0_0]
  rw [show (dat0 V c).owesAt () t.succ = (dat0 V c).owesAt () t.castSucc from rfl,
    show (dat0 V c).Φ t.succ = PhiS V c (t.val + 1) t.isLt from rfl, PhiS_succ, PhiS_castSucc,
    show (dat0 V c).leavesExact 0 t = owns (c : Thread nD τ) (ms0_0 t) fullShare ((dat0 V c).after 0 t) from rfl, after0_0]
  by_cases h0 : t.val = 0
  · rw [PhiS_zero V c _ _ h0, acc_first V c t h0, leaves0_1_idle V c t (by omega)]
    iintro ⟨⟨⟨HS, Hr⟩, Hg⟩, Ho, ⟨%d0, H0⟩, H1⟩
    iapply (amax_first c (grid0.coords t) _ _ _ _ _ _ ((hcond0_0 t).mpr h0) (fun h => absurd ((hcond0_1 t).mp h) (by omega))
      (fun h => absurd ((hcond0_2 t).mp h) (by omega)) (iblk0 V c 0 t) Set.univ _)
    isplitl [H0]; · iexact H0
    isplitl [HS]; · iexact HS
    iintro ⟨H0, HS⟩
    isplitl [HS Hr Hg]
    · isplitl [HS Hr]
      · isplitl [HS]; · iexact HS
        iexact Hr
      iexact Hg
    isplitl [Ho]; · iexact Ho
    isplitl [H0]; · iexact H0
    iexact H1
  · rw [PhiS_pos V c _ _ h0, acc_later V c t h0]
    by_cases h2 : t.val = 23
    · rw [leaves0_1_last V c t h2, after0_1, acc_later V c t h0]
      iintro ⟨⟨⟨HS, Hr⟩, Hg⟩, Ho, ⟨%d0, H0⟩, ⟨%d1, H1⟩⟩
      iapply (amax_last c (grid0.coords t) _ _ _ _ _ _ (fun h => h0 ((hcond0_0 t).mp h)) ((hcond0_1 t).mpr (by omega))
        ((hcond0_2 t).mpr h2) (iblk0 V c 0 t) (acc V c (t.val - 1) (Nat.lt_of_le_of_lt (Nat.sub_le _ _) t.isLt)) Set.univ _)
      isplitl [H0]; · iexact H0
      isplitl [H1]; · iexists _; iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
    · rw [leaves0_1_idle V c t h2]
      iintro ⟨⟨⟨HS, Hr⟩, Hg⟩, Ho, ⟨%d0, H0⟩, H1⟩
      iapply (amax_middle c (grid0.coords t) _ _ _ _ _ _ (fun h => h0 ((hcond0_0 t).mp h)) ((hcond0_1 t).mpr (by omega))
        (fun h => h2 ((hcond0_2 t).mp h)) (iblk0 V c 0 t) (acc V c (t.val - 1) (Nat.lt_of_le_of_lt (Nat.sub_le _ _) t.isLt)) Set.univ _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexact H1

theorem defs₀_row0 (t : Fin cfg0.N) : defs₀ (F := F) .tc cfg0.body (cfg0.bodyArgs t (cfg0.slots t)) = bodyAt0 t := by
  unfold defs₀; rw [Defs.onTc_tc]
/-- Region 0's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Region 1 -/

/-- Region 1's proof data: the output's buffer after a point holds the quantised block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) ((iblk1 V c 0 t : Vec F S1x1 .f32) o11)
  Φ _ := Pipeline.ΦA spec1 c
  q _ := fullShare
  owed _ := 0
theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 1 t) ((iblk1 V c 0 t : Vec F S1x1 .f32) o11) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

abbrev ms1_0 (t : Fin cfg1.N) : Memref sig .tc .smem S1x1 .f32 := win1_0.stage (cfg1.slots t 0)
abbrev ms1_1 (t : Fin cfg1.N) : Memref sig .tc .vmem S256x6912 .bf16 := win1_1.stage (cfg1.slots t 1)
abbrev ms1_2 (t : Fin cfg1.N) : Memref sig .tc .vmem S256x6912 .fp8e5m2 := win1_2.stage (cfg1.slots t 2)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point of region 1. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl, after1_0, after1_1, after1_2]
  iintro ⟨HΦ, Ho, ⟨%d0, H0⟩, ⟨%d1, H1⟩, ⟨%d2, H2⟩⟩
  iapply (quant_body c (grid1.coords t) _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) : defs₀ (F := F) .tc cfg1.body (cfg1.bodyArgs t (cfg1.slots t)) = bodyAt1 t := by
  unfold defs₀; rw [Defs.onTc_tc]
/-- Region 1's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## Region 2 -/

/-- Region 2's proof data: the output's buffer after a point holds the tile of the product, scaled and added to. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 1 t) (iblk2 V c 2 t) (iblk2 V c 3 t) ((iblk2 V c 0 t : Vec F S1x1 .f32) o11)
  Φ _ := Pipeline.ΦA spec2 c
  q _ := fullShare
  owed _ := 0
theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 1 t) (iblk2 V c 2 t) (iblk2 V c 3 t) ((iblk2 V c 0 t : Vec F S1x1 .f32) o11) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

abbrev ms2_0 (t : Fin cfg2.N) : Memref sig .tc .smem S1x1 .f32 := win2_0.stage (cfg2.slots t 0)
abbrev ms2_1 (t : Fin cfg2.N) : Memref sig .tc .vmem S6144x1024 .fp8e4m3 := win2_1.stage (cfg2.slots t 1)
abbrev ms2_2 (t : Fin cfg2.N) : Memref sig .tc .vmem S6144x768 .fp8e5m2 := win2_2.stage (cfg2.slots t 2)
abbrev ms2_3 (t : Fin cfg2.N) : Memref sig .tc .vmem S1024x768 .f32 := win2_3.stage (cfg2.slots t 3)
abbrev ms2_4 (t : Fin cfg2.N) : Memref sig .tc .vmem S1024x768 .f32 := win2_4.stage (cfg2.slots t 4)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

/-- The body at any point of region 2. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl, after2_0, after2_1, after2_2, after2_3, after2_4]
  iintro ⟨HΦ, Ho, ⟨%d0, H0⟩, ⟨%d1, H1⟩, ⟨%d2, H2⟩, ⟨%d3, H3⟩, ⟨%d4, H4⟩⟩
  iapply (wgrad_body c (grid2.coords t) _ _ _ _ _ _ _ _ _ _ (iblk2 V c 0 t) (iblk2 V c 1 t) (iblk2 V c 2 t) (iblk2 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row2 (t : Fin cfg2.N) : defs₀ (F := F) .tc cfg2.body (cfg2.bodyArgs t (cfg2.slots t)) = bodyAt2 t := by
  unfold defs₀; rw [Defs.onTc_tc]
/-- Region 2's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.KernelIdeal.Run.lean ====
/- The run of `Cert.KernelIdeal`'s @main, at any float interpretation: its eleven items are eight stretches of host operations
   and three kernel regions. `W0` … `W11` are the core's buffer contents at the boundaries between them, a fold from the
   launch memory: across a stretch the operations' results (`StableHlo.after`), across a region its arrays at what the
   write-backs leave (`Pipeline.withArrays`). `run` states that @main terminates with every unscoped buffer at `W11` and
   every semaphore counter at zero; `frame` is its consequence for the argument arrays. -/
module

public import proofs.«01_k».proof.Proof.KernelIdeal.Bodies

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays of @main. -/
abbrev argRefs : List (Ref sig .tc) := [main_arg0, main_arg1, main_arg2, main_arg3]

/-! ## The host stretches: none allocates a buffer, and each lists the references its operations write, in order -/

theorem hostOps0_fresh : (hostOps0 : List (HloOp τ sig (Elt F))).Forall fun op => op.fresh = ∅ := by
  simp only [List.Forall]; repeat' constructor
/-- The references `hostOps0` writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The references `hostOps1` writes. -/
abbrev hostOps1_W : List (Ref sig .tc) := [main_v3, main_cst, main_v4, main_cst_0, main_v5, main_v6, main_c, main_v7, main_v8, main_c_1, main_v9, main_v10, main_v11, main_v12, main_v13, main_v14, main_c_2, main_v15, main_c_3, main_v16, main_v17, main_c_4, main_v18, main_c_5]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
/-- The references `hostOps1_1` writes. -/
abbrev hostOps1_1_W : List (Ref sig .tc) := [main_call0_v0, main_v19]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
/-- The references `hostOps1_2` writes. -/
abbrev hostOps1_2_W : List (Ref sig .tc) := [main_cst_6, main_v20, main_c_7]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
/-- The references `hostOps1_3` writes. -/
abbrev hostOps1_3_W : List (Ref sig .tc) := [main_call1_v0, main_v21]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
/-- The references `hostOps1_4` writes. -/
abbrev hostOps1_4_W : List (Ref sig .tc) := [main_c_8, main_v22, main_c_9, main_v23, main_v24, main_v25, main_c_10, main_v26, main_c_11, main_v27, main_v28, main_v29]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps2_fresh : (hostOps2 : List (HloOp τ sig (Elt F))).Forall fun op => op.fresh = ∅ := by
  simp only [List.Forall]; repeat' constructor
/-- The references `hostOps2` writes. -/
abbrev hostOps2_W : List (Ref sig .tc) := [main_v31, main_v32]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
/-- The references `hostOps3` writes. -/
abbrev hostOps3_W : List (Ref sig .tc) := [main_v34]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! ## The buffer contents at the boundaries

`WJ_of` keeps a reference the item before boundary J does not write; `WJ_args` reads the arguments as launched;
`WJ_arr` reads a region's arrays at its exit. -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- Region 0's entry contents at the TensorCore's references. -/
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- Region 0's exit contents at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- Region 1's entry contents at the TensorCore's references. -/
abbrev V7 : (c : Dev nD) → (b : Ref sig .tc) → Buf (Elt F) ((c : Thread nD τ).loc b) := fun c b => W7 m ρ c b
/-- At region 1's exit: its arrays at what its write-backs leave, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- Region 1's exit contents at the TensorCore's references. -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
/-- Region 2's entry contents at the TensorCore's references. -/
abbrev V9 : (c : Dev nD) → (b : Ref sig .tc) → Buf (Elt F) ((c : Thread nD τ).loc b) := fun c b => W9 m ρ c b
/-- At region 2's exit: its arrays at what its write-backs leave, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- Region 2's exit contents at the TensorCore's references. -/
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3`. -/
abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
theorem W11_args (c : Dev nD) : ∀ a ∈ argRefs, W11 m ρ c (Proc.devRef .tc a) = m ((c : Thread nD τ).loc a) :=
  fun a ha => (W11_of m ρ c a (hostOps3_args a ha)).trans (W10_args m ρ c a ha)
/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W11`, the generator register at some state. -/
abbrev Tₙ (c : Dev nD) : sProp 𝕄 := iprop(StableHlo.held (c : Thread nD τ) (Pipeline.ucRefs τ sig) (W11 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from PhiS_last (V1 m ρ) c cfg0.N (Nat.le_refl _)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W9`, left at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ),
    .host (hseg hostOps3 hostOps3_sub hostOps3_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- @main terminates from any memory with zero counters, nothing faulting, and every final state has every unscoped buffer
    at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨fun c => h c, funext fun g => hz g (.inr (no_unscoped g.2))⟩)

/-- The argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    have ha (a : Ref sig .tc) (hu : ¬ (Proc.devRef .tc a : DevRef τ sig).isScoped) (hm : a ∈ argRefs) :
        r.2.mem ((c.tc : Thread nD τ).loc a) = m ((c.tc : Thread nD τ).loc a) := (h.1 c _ (mem_uc a hu)).trans (W11_args m ρ c a hm)
    ⟨ha main_arg0 (by decide) (by decide), ha main_arg1 (by decide) (by decide), ha main_arg2 (by decide) (by decide),
     ha main_arg3 (by decide) (by decide)⟩, h.2⟩) (run m ρ)

end Cert.KernelIdeal.Run

end
-- ==== Proof.Scale.lean ====
/- The scale of the quantiser, as extended reals: both programs derive from the largest |dy|, `a`, an exponent `z` and the powers
   `2^z` and `2^(-z)`. The kernel counts the normal powers of two that are at most `a · c` and builds the powers from
   their bits; the reference takes `⌊log (a·c) / log 2⌋ + 1` and the power function. `exponent_spec` states that both
   find one integer `z`, whatever `a` is. -/
module

public import Idealize.ShloMosaic.PureOps.Ideal
public import Idealize.ShloMosaic.PureOps.Ideal.Laws

@[expose] public section

noncomputable section

namespace Cert.Scale

open Idealize.ShloMosaic

/-- The float whose exponent field is `k` and whose other bits are zero is `2^(k - 127)`. -/
theorem ofBits_exponent (k : ℕ) (h1 : 1 ≤ k) (h2 : k ≤ 254) :
    Ideal.ofBits .f32 (BitVec.ofNat 32 (k * 8388608)) = (((2 : ℝ) ^ ((k : ℤ) - 127) : ℝ) : EReal) := by
  have hn : (BitVec.ofNat 32 (k * 8388608)).toNat = k * 8388608 := by
    rw [BitVec.toNat_ofNat]; omega
  have e1 : ((BitVec.ofNat 32 (k * 8388608)).extractLsb' 31 1 == 1#1) = false := by
    rw [beq_eq_false_iff_ne]; intro e
    have := congrArg BitVec.toNat e
    rw [BitVec.extractLsb'_toNat, hn, Nat.shiftRight_eq_div_pow] at this
    simp at this; omega
  have e2 : ((BitVec.ofNat 32 (k * 8388608)).extractLsb' 23 8).toNat = k := by
    rw [BitVec.extractLsb'_toNat, hn, Nat.shiftRight_eq_div_pow]; omega
  have e3 : ((BitVec.ofNat 32 (k * 8388608)).extractLsb' 0 23).toNat = 0 := by
    rw [BitVec.extractLsb'_toNat, hn, Nat.shiftRight_eq_div_pow]; omega
  show Ideal.ieee 8 23 (BitVec.ofNat 32 (k * 8388608)) = _
  unfold Ideal.ieee
  simp only [show (8 + 23 : ℕ) = 31 from rfl, e1, e2, e3]
  rw [if_neg (by norm_num; omega), if_neg (by omega)]
  congr 1
  rw [if_neg (by decide), one_mul, Nat.add_zero]
  rw [show ((2 ^ 23 : ℕ) : ℝ) = (2 : ℝ) ^ (23 : ℤ) by norm_num, ← zpow_add₀ (by norm_num : (2 : ℝ) ≠ 0)]
  congr 1; norm_num

theorem ofBits_two : Ideal.ofBits .f32 0x40000000#32 = ((2 : ℝ) : EReal) :=
  (ofBits_exponent 128 (by norm_num) (by norm_num)).trans (by norm_num)
theorem ofBits_one : Ideal.ofBits .f32 0x3F800000#32 = ((1 : ℝ) : EReal) :=
  (ofBits_exponent 127 (by norm_num) (by norm_num)).trans (by norm_num)
theorem ofBits_tiny : Ideal.ofBits .f32 0x00800000#32 = (((2 : ℝ) ^ (-126 : ℤ) : ℝ) : EReal) :=
  (ofBits_exponent 1 (by norm_num) (by norm_num)).trans (by norm_num)

/-- A power of two is at most a positive `x` exactly when its exponent is at most `⌊log x / log 2⌋`. -/
theorem zpow_le_iff (x : ℝ) (h : 0 < x) (z : ℤ) : (2 : ℝ) ^ z ≤ x ↔ z ≤ ⌊Real.log x / Real.log 2⌋ := by
  rw [Int.le_floor, le_div_iff₀ (Real.log_pos (by norm_num)), ← Real.log_zpow, Real.log_le_log_iff (by positivity) h]

/-- The number of the 254 normal powers of two `2^-126 … 2^127` that are at most `x`, for `x` in `[2^-126, 2^127)`. -/
theorem card_powers (x : ℝ) (h1 : (2 : ℝ) ^ (-126 : ℤ) ≤ x) (h2 : x < (2 : ℝ) ^ (127 : ℤ)) :
    ((Finset.univ.filter fun j : Fin 254 => (2 : ℝ) ^ ((j.val : ℤ) - 126) ≤ x).card : ℤ) = ⌊Real.log x / Real.log 2⌋ + 127 := by
  have h0 : 0 < x := lt_of_lt_of_le (by positivity) h1
  have hl : -126 ≤ ⌊Real.log x / Real.log 2⌋ := (zpow_le_iff x h0 _).1 h1
  have hu : ⌊Real.log x / Real.log 2⌋ < 127 := by
    by_contra h; exact absurd ((zpow_le_iff x h0 127).2 (not_lt.1 h)) (not_le.2 h2)
  obtain ⟨n, hn⟩ : ∃ n : ℕ, (n : ℤ) = ⌊Real.log x / Real.log 2⌋ + 127 := ⟨(⌊Real.log x / Real.log 2⌋ + 127).toNat, by omega⟩
  rw [← hn]
  have : (Finset.univ.filter fun j : Fin 254 => (2 : ℝ) ^ ((j.val : ℤ) - 126) ≤ x) = Finset.univ.filter fun j : Fin 254 => j.val < n :=
    Finset.filter_congr fun j _ => by rw [zpow_le_iff x h0]; omega
  rw [this, Fin.card_filter_val_lt]
  congr 1; omega

/-- A normal positive float is a positive real, at most the next power of two and at least its own. -/
theorem ofBits_normal (b : BitVec 32) (ex fr : ℕ) (hs : (b.extractLsb' 31 1 == 1#1) = false) (he : (b.extractLsb' 23 8).toNat = ex)
    (hf : (b.extractLsb' 0 23).toNat = fr) (h0 : ex ≠ 0) (h1 : ex ≠ 255) :
    Ideal.ofBits .f32 b = ((((2 ^ 23 + fr : ℕ) : ℝ) * (2 : ℝ) ^ ((ex : ℤ) - 150) : ℝ) : EReal) := by
  show Ideal.ieee 8 23 b = _
  unfold Ideal.ieee
  simp only [show 8 + 23 = 31 from rfl, hs, he, hf]
  rw [if_neg (by norm_num; omega), if_neg h0]
  congr 1
  simp only [Bool.false_eq_true, if_false, one_mul]
  congr 2
  norm_num; ring

/-- The scale factor `1/57344` rounded to a float: a positive real below one quarter. -/
theorem ofBits_factor : ∃ r : ℝ, Ideal.ofBits .f32 0x37924925#32 = (r : EReal) ∧ 0 < r ∧ r ≤ 1 / 4 :=
  ⟨_, ofBits_normal _ 111 0x124925 (by decide) (by decide) (by decide) (by decide) (by decide), by positivity, by norm_num⟩

/-- The largest finite bfloat16 is a real below `2^128`. -/
theorem ofBits_top : ∃ r : ℝ, Ideal.ofBits .f32 0x7F7F0000#32 = (r : EReal) ∧ r < (2 : ℝ) ^ (128 : ℤ) :=
  ⟨_, ofBits_normal _ 254 0x7F0000 (by decide) (by decide) (by decide) (by decide) (by decide), by norm_num⟩

/-- How many of the 254 normal powers of two, each built from its exponent field, are at most `v`. -/
def powers (v : EReal) : Finset (Fin 254) :=
  Finset.univ.filter fun j => Ideal.ofBits .f32 (IntOp.shli .host (IntOp.addi 1#32 (BitVec.ofNat 32 j.val)) 23#32) ≤ v

/-- The kernel's exponent word, from the largest magnitude `a` and the number `n` of powers counted. -/
def wordOf (a : EReal) (n : BitVec 32) : BitVec 32 :=
  Scalar.select (FloatOps.cmpf (F := Ideal) (φ := .f32) .oeq a (FloatOps.ofBits (F := Ideal) .f32 0#32)) 0#32
    (Scalar.select (IntOp.andi (IntOp.cmpi .sgt n 0#32)
        (FloatOps.cmpf (F := Ideal) (φ := .f32) .ole a (FloatOps.ofBits (F := Ideal) .f32 2139029504#32)))
      (IntOp.subi n 126#32) 0#32)

/-- The kernel's exponent word, counted. -/
def word (a : EReal) : BitVec 32 := wordOf a (BitVec.ofNat 32 (powers (a * Ideal.ofBits .f32 0x37924925#32)).card)

/-- The reference's exponent. -/
def expo (a : EReal) : EReal :=
  Scalar.select (FloatOps.cmpf (F := Ideal) (φ := .f32) .oeq a (FloatOps.ofBits (F := Ideal) .f32 0#32))
    (FloatOps.sitofp (F := Ideal) .f32 0#32)
    (Scalar.select
      (IntOp.andi
        (FloatOps.cmpf (F := Ideal) (φ := .f32) .oge (FloatOps.mulf (F := Ideal) (φ := .f32) a (FloatOps.ofBits (F := Ideal) .f32 932333861#32))
          (FloatOps.ofBits (F := Ideal) .f32 8388608#32))
        (FloatOps.cmpf (F := Ideal) (φ := .f32) .ole a (FloatOps.ofBits (F := Ideal) .f32 2139029504#32)))
      (FloatOps.addf (F := Ideal) (φ := .f32)
        (FloatOps.hostUnary (F := Ideal) (φ := .f32) .floor
          (FloatOps.hostDivf (F := Ideal) (φ := .f32)
            (FloatOps.hostUnary (F := Ideal) (φ := .f32) .log
              (FloatOps.mulf (F := Ideal) (φ := .f32) a (FloatOps.ofBits (F := Ideal) .f32 932333861#32)))
            (FloatOps.hostUnary (F := Ideal) (φ := .f32) .log (FloatOps.ofBits (F := Ideal) .f32 1073741824#32))))
        (FloatOps.ofBits (F := Ideal) .f32 1065353216#32))
      (FloatOps.sitofp (F := Ideal) .f32 0#32))

/-- Shifting a small exponent field into place multiplies it by `2^23`. -/
theorem shift_field (k : ℕ) (h : k ≤ 254) : IntOp.shli .host (BitVec.ofNat 32 k) 23#32 = BitVec.ofNat 32 (k * 8388608) := by
  show (if (23#32).toNat < 32 then _ else _) = _
  rw [if_pos (by decide)]
  apply BitVec.eq_of_toNat_eq
  show (BitVec.ofNat 32 k <<< (23#32).toNat).toNat = _
  rw [BitVec.toNat_shiftLeft, BitVec.toNat_ofNat, BitVec.toNat_ofNat, Nat.shiftLeft_eq,
    show 23 % 2 ^ 32 = 23 from rfl, BitVec.toNat_ofNat]
  rw [Nat.mod_eq_of_lt (show k < 2 ^ 32 by omega)]

/-- The power of two `2^z` the kernel builds from the word of `z`. -/
theorem power_word (z : ℤ) (h1 : -126 ≤ z) (h2 : z ≤ 126) :
    Ideal.ofBits .f32 (IntOp.shli .host (IntOp.addi (BitVec.ofInt 32 z) 127#32) 23#32) = (((2 : ℝ) ^ z : ℝ) : EReal) := by
  obtain ⟨k, hk⟩ : ∃ k : ℕ, (k : ℤ) = z + 127 := ⟨(z + 127).toNat, by omega⟩
  have e : IntOp.addi (BitVec.ofInt 32 z) 127#32 = BitVec.ofNat 32 k := by
    show BitVec.ofInt 32 z + BitVec.ofInt 32 127 = _
    rw [← BitVec.ofInt_add, ← hk, BitVec.ofInt_natCast]
  rw [e, shift_field k (by omega), ofBits_exponent k (by omega) (by omega), hk, add_sub_cancel_right]

/-- The counted powers, as powers. -/
theorem mem_powers (v : EReal) (j : Fin 254) :
    j ∈ powers v ↔ (((2 : ℝ) ^ ((j.val : ℤ) - 126) : ℝ) : EReal) ≤ v := by
  unfold powers
  rw [Finset.mem_filter]
  have e : IntOp.addi 1#32 (BitVec.ofNat 32 j.val) = BitVec.ofNat 32 (j.val + 1) := by
    show BitVec.ofNat 32 1 + BitVec.ofNat 32 j.val = _
    rw [← BitVec.ofNat_add, add_comm]
  have hj := j.isLt
  rw [e, shift_field _ (by omega), ofBits_exponent _ (by omega) (by omega)]
  simp only [Finset.mem_univ, true_and]
  rw [show (((j.val + 1 : ℕ) : ℤ) - 127) = (j.val : ℤ) - 126 by push_cast; ring]

/-- One of the counted powers is at most `v` exactly when the least of them is. -/
theorem powers_pos (v : EReal) : 0 < (powers v).card ↔ (((2 : ℝ) ^ (-126 : ℤ) : ℝ) : EReal) ≤ v := by
  rw [Finset.card_pos]
  constructor
  · rintro ⟨j, hj⟩
    refine le_trans ?_ ((mem_powers v j).1 hj)
    exact EReal.coe_le_coe_iff.2 (zpow_le_zpow_right₀ (by norm_num) (by omega))
  · intro h
    exact ⟨0, (mem_powers v 0).2 (by simpa using h)⟩

/-- The two selects that both exponents end in. -/
theorem select_guard {α : Type} (p q r : Prop) [Decidable p] [Decidable q] [Decidable r] (x y : α) :
    Scalar.select (BitVec.ofBool (decide p)) y (Scalar.select (IntOp.andi (BitVec.ofBool (decide q)) (BitVec.ofBool (decide r))) x y)
      = if ¬ p ∧ q ∧ r then x else y := by
  by_cases hp : p <;> by_cases hq : q <;> by_cases hr : r <;> simp [hp, hq, hr, Scalar.select, IntOp.andi]

/-- A count of powers is a positive word exactly when it is a positive number. -/
theorem count_pos (v : EReal) :
    IntOp.cmpi .sgt (BitVec.ofNat 32 (powers v).card) 0#32 = BitVec.ofBool (decide ((((2 : ℝ) ^ (-126 : ℤ) : ℝ) : EReal) ≤ v)) := by
  rw [show decide ((((2 : ℝ) ^ (-126 : ℤ) : ℝ) : EReal) ≤ v) = decide (0 < (powers v).card) from decide_eq_decide.2 (powers_pos v).symm]
  have hb : (powers v).card ≤ 254 := (Finset.card_le_univ _).trans (by simp)
  show BitVec.ofBool ((0#32).slt (BitVec.ofNat 32 _)) = _
  congr 1
  rw [BitVec.slt_eq_decide, decide_eq_decide]
  generalize (powers v).card = n at hb
  show (0 : ℤ) < (BitVec.ofNat 32 n).toInt ↔ _
  rw [BitVec.toInt_ofNat', Int.bmod_eq_of_le (by omega) (by omega)]
  omega

/-- The kernel's word under its one condition. -/
theorem word_eq (a : EReal) :
    word a = if ¬ a = Ideal.ofBits .f32 0#32 ∧ (((2 : ℝ) ^ (-126 : ℤ) : ℝ) : EReal) ≤ a * Ideal.ofBits .f32 0x37924925#32
        ∧ a ≤ Ideal.ofBits .f32 0x7F7F0000#32
      then IntOp.subi (BitVec.ofNat 32 (powers (a * Ideal.ofBits .f32 0x37924925#32)).card) 126#32 else 0#32 := by
  unfold word wordOf
  rw [count_pos]
  exact select_guard _ _ _ _ _

/-- The reference's exponent under the same condition. -/
theorem expo_eq (a : EReal) :
    expo a = if ¬ a = Ideal.ofBits .f32 0#32 ∧ (((2 : ℝ) ^ (-126 : ℤ) : ℝ) : EReal) ≤ a * Ideal.ofBits .f32 0x37924925#32
        ∧ a ≤ Ideal.ofBits .f32 0x7F7F0000#32
      then Ideal.liftRound Int.floor (Ideal.div (Ideal.log (a * Ideal.ofBits .f32 0x37924925#32)) (Ideal.log ((2 : ℝ) : EReal))) + ((1 : ℝ) : EReal)
      else (((0#32 : BitVec 32).toInt : ℝ) : EReal) := by
  rw [← ofBits_tiny, ← ofBits_two, ← ofBits_one]
  exact select_guard _ _ _ _ _

/-- For whatever largest magnitude `a`, the kernel's word and the reference's exponent are one integer, a small one. -/
theorem exponent_spec (a : EReal) :
    ∃ z : ℤ, -126 ≤ z ∧ z ≤ 126 ∧ word a = BitVec.ofInt 32 z ∧ expo a = ((z : ℝ) : EReal) := by
  rw [word_eq, expo_eq]
  obtain ⟨c, hc, hc0, hc1⟩ := ofBits_factor
  obtain ⟨M, hM, hM1⟩ := ofBits_top
  rw [hc, hM]
  split_ifs with hg
  · obtain ⟨-, hv, ha⟩ := hg
    have hbot : a ≠ ⊥ := by
      rintro rfl
      rw [EReal.bot_mul_coe_of_pos hc0] at hv
      exact absurd hv (not_le.2 (EReal.bot_lt_coe _))
    have htop : a ≠ ⊤ := by
      rintro rfl
      exact absurd ha (not_le.2 (EReal.coe_lt_top _))
    lift a to ℝ using ⟨htop, hbot⟩
    rw [← EReal.coe_mul] at hv ⊢
    rw [EReal.coe_le_coe_iff] at hv ha
    have hx : 0 < a * c := lt_of_lt_of_le (by positivity) hv
    have hxu : a * c < (2 : ℝ) ^ (126 : ℤ) := by
      have h1 : a * c ≤ M * c := mul_le_mul_of_nonneg_right ha hc0.le
      have hMp : 0 < M := by
        by_contra h
        have := mul_nonpos_of_nonpos_of_nonneg (not_lt.1 h) hc0.le
        linarith
      have h2 : M * c ≤ M * (1 / 4) := mul_le_mul_of_nonneg_left hc1 hMp.le
      have h3 : (2 : ℝ) ^ (128 : ℤ) = 4 * (2 : ℝ) ^ (126 : ℤ) := by
        rw [show (128 : ℤ) = 2 + 126 by norm_num, zpow_add₀ (by norm_num)]; norm_num
      rw [h3] at hM1
      linarith
    have hcard := card_powers (a * c) hv (hxu.trans (zpow_lt_zpow_right₀ (by norm_num) (by norm_num)))
    have hfl : -126 ≤ ⌊Real.log (a * c) / Real.log 2⌋ := (zpow_le_iff _ hx _).1 hv
    have hfu : ⌊Real.log (a * c) / Real.log 2⌋ < 126 := by
      by_contra h; exact absurd ((zpow_le_iff _ hx 126).2 (not_lt.1 h)) (not_le.2 hxu)
    have hset : powers ((a * c : ℝ) : EReal) = Finset.univ.filter fun j : Fin 254 => (2 : ℝ) ^ ((j.val : ℤ) - 126) ≤ a * c := by
      ext j; rw [mem_powers, Finset.mem_filter, EReal.coe_le_coe_iff]; simp
    rw [← hset] at hcard
    refine ⟨⌊Real.log (a * c) / Real.log 2⌋ + 1, by omega, by omega, ?_, ?_⟩
    · show BitVec.ofNat 32 _ - 126#32 = _
      rw [BitVec.sub_eq_add_neg, show (-126#32 : BitVec 32) = BitVec.ofInt 32 (-126) from rfl, ← BitVec.ofInt_natCast, hcard, ← BitVec.ofInt_add]
      congr 1; ring
    · have l1 : Ideal.log ((a * c : ℝ) : EReal) = (Real.log (a * c) : EReal) := if_neg (not_le.2 hx)
      have l2 : Ideal.log ((2 : ℝ) : EReal) = (Real.log 2 : EReal) := if_neg (by norm_num)
      rw [l1, l2, Ideal.div_coe (Real.log_pos (by norm_num)).ne', ← EReal.coe_mul, mul_one_div]
      show ((⌊Real.log (a * c) / Real.log 2⌋ : ℝ) : EReal) + _ = _
      rw [← EReal.coe_add]; push_cast; rfl
  · exact ⟨0, by norm_num, by norm_num, rfl, rfl⟩

/-- The two powers: what the kernel builds from its word and its negation is the reference's power function at its exponent and the negation. -/
theorem scale_eq (a : EReal) :
    Ideal.ofBits .f32 (IntOp.shli .host (IntOp.addi (word a) 127#32) 23#32) = Ideal.pow (Ideal.ofBits .f32 0x40000000#32) (expo a) ∧
    Ideal.ofBits .f32 (IntOp.shli .host (IntOp.addi (-(word a)) 127#32) 23#32)
      = Ideal.pow (Ideal.ofBits .f32 0x40000000#32) (-(expo a)) := by
  obtain ⟨z, h1, h2, hw, he⟩ := exponent_spec a
  rw [hw, he, ofBits_two, show -(BitVec.ofInt 32 z) = BitVec.ofInt 32 (-z) from (BitVec.ofInt_neg ..).symm,
    power_word z h1 h2, power_word (-z) (by omega) (by omega), ← EReal.coe_neg]
  refine ⟨congrArg _ (Real.rpow_intCast 2 z).symm, congrArg _ ?_⟩
  rw [← Int.cast_neg]
  exact (Real.rpow_intCast 2 (-z)).symm

/-! ## The largest magnitude, by the numbers it is at most -/

theorem ofBits_f32_bot : Ideal.ofBits .f32 0xFF800000#32 = ⊥ := by
  simp [Ideal.ofBits, Ideal.ieee]
theorem ofBits_bf16_bot : Ideal.ofBits .bf16 0xFF80#16 = ⊥ := by
  simp [Ideal.ofBits, Ideal.ieee]

/-- A reshaped array has the same elements. -/
theorem forall_shapeCast {s t : Shape} {α : Type} (x : s.Idx → α) (h : s.ShapeCasts t) (P : α → Prop) :
    (∀ i, P (shapeCast t x h i)) ↔ ∀ k, P (x k) :=
  ⟨fun H k => by have := H ((Shape.reshapeEquiv h).symm k); unfold shapeCast at this; rwa [Equiv.apply_symm_apply] at this, fun H _ => H _⟩

/-- The results of a reduction by maximum from `⊥` are all at most `b` exactly when all the elements are. -/
theorem forall_fold_max {ι κ : Type} [Fintype ι] [DecidableEq κ] (d : ι → κ) (f : ι → EReal) (b : EReal) :
    (∀ j, (Finset.univ.filter fun i => d i = j).fold max ⊥ f ≤ b) ↔ ∀ i, f i ≤ b := by
  simp only [Finset.fold_max_le, bot_le, true_and, Finset.mem_filter, Finset.mem_univ]
  exact ⟨fun H i => H (d i) i rfl, fun H _ i _ => H i⟩

/-- `x` is the largest magnitude of `f`'s elements: it is at most a number exactly when all the magnitudes are. -/
def Largest {ι : Type} (x : EReal) (f : ι → EReal) : Prop := ∀ b, x ≤ b ↔ ∀ i, max (f i) (-f i) ≤ b

/-- There is one largest magnitude. -/
theorem Largest.unique {ι : Type} {x y : EReal} {f : ι → EReal} (hx : Largest x f) (hy : Largest y f) : x = y :=
  eq_of_forall_ge_iff fun b => (hx b).trans (hy b).symm

/-- A reshaped array has the same largest magnitude. -/
theorem Largest.of_shapeCast {s t : Shape} {x : EReal} {f : s.Idx → EReal} {h : s.ShapeCasts t} (hx : Largest x (shapeCast t f h)) : Largest x f :=
  fun b => (hx b).trans (forall_shapeCast f h fun y => max y (-y) ≤ b)

/-- The code of a value at a reciprocal scale: the scaled value clipped to the format's range. -/
def code (d s : EReal) : EReal :=
  min (Ideal.ofBits .f32 0x47600000#32) (max (Ideal.ofBits .f32 0xC7600000#32) (d * s))

end Cert.Scale

end
-- ==== Proof.KernelIdeal.Host.lean ====
/- What the host operations between the kernel's regions leave, at the extended reals: the scale and its reciprocal from the
   largest |dy|, and the reshaped arrays and factors that the regions read. -/
module

public import proofs.«01_k».proof.Proof.KernelIdeal.Run
public import proofs.«01_k».proof.Proof.Scale
public import Idealize.ShloMosaic.Lib.StableHlo.ReadAt
public import Idealize.ShloMosaic.Lib.IndicatorCount
public import Idealize.ShloMosaic.PureOps.Ideal
public import Idealize.ShloMosaic.PureOps.Ideal.Laws

@[expose] public section

noncomputable section

namespace Cert.KernelIdeal.Host

open Cert.KernelIdeal Cert.KernelIdeal.Gen Idealize.ShloMosaic Idealize.ShloMosaic.TcCoe

/-- The host's count of the powers of two that are at most `a` times the factor is the number of `Scale.powers`. -/
theorem count_eq (a : EReal) (i : S_.Idx) :
    Host.reduce IntOp.addi
      (extui 32
        (cmpf (F := Ideal) (φ := .f32) CmpFPredicate.oge
          (broadcastInDim S254 ![] bcast_S_S254 (mulf (F := Ideal) (φ := .f32) (fun _ : S_.Idx => a) (constant (F := Ideal) S_ FTy.f32 932333861#32)))
          (bitcastToFloat FTy.f32
            (Host.shli
              (addi (broadcastInDim S254 ![] bcast_S_S254 (constantI S_ 32 1#32)) (iotaInDim S254 32 0))
              (broadcastInDim S254 ![] bcast_S_S254 (constantI S_ 32 23#32)))))
        natLt_1_32)
      (constantI S_ 32 0#32) reducesTo_S254_S_d0 h_S_ i
    = BitVec.ofNat 32 (Scale.powers (a * Ideal.ofBits .f32 0x37924925#32)).card := by
  rw [Host.reduce_eq_fold]
  refine (IndicatorCount.fold_addi_setWidth_eq_card (w := 32) (fun k : S254.Idx =>
    FloatOps.cmpf (F := Ideal) (φ := .f32) .oge (a * Ideal.ofBits .f32 0x37924925#32)
      (Ideal.ofBits .f32 (IntOp.shli .host (IntOp.addi 1#32 (BitVec.ofNat 32 (k 0).val)) 23#32))) _).trans ?_
  congr 1
  refine Finset.card_bij (fun k _ => (k 0 : Fin 254)) ?_ ?_ ?_
  · intro k hk
    have := (Finset.mem_filter.1 hk).2
    refine Finset.mem_filter.2 ⟨Finset.mem_univ _, ?_⟩
    by_contra h
    rw [Ideal.cmpf_def] at this
    have e : Ideal.cmp .oge (a * Ideal.ofBits .f32 0x37924925#32)
        (Ideal.ofBits .f32 (IntOp.shli .host (IntOp.addi 1#32 (BitVec.ofNat 32 (k 0).val)) 23#32)) = BitVec.ofBool false :=
      congrArg BitVec.ofBool (decide_eq_false h)
    rw [e] at this
    exact absurd this (by decide)
  · intro k _ k' _ h
    funext d
    match d with
    | ⟨0, _⟩ => exact h
  · intro j hj
    refine ⟨fun d => match d with | ⟨0, _⟩ => j, ?_, rfl⟩
    refine Finset.mem_filter.2 ⟨Finset.mem_filter.2 ⟨Finset.mem_univ _, ?_⟩, ?_⟩
    · exact funext fun d => d.elim0
    · exact congrArg BitVec.ofBool (decide_eq_true (Finset.mem_filter.1 hj).2)

/-- The scale the host returns, from region 0's result. -/
theorem scale_at (V : Valuation τ sig (Elt Ideal)) (i : S_.Idx) :
    StableHlo.after hostOps1_4 (StableHlo.after hostOps1_3 (StableHlo.after hostOps1_2 (StableHlo.after hostOps1_1 (StableHlo.after hostOps1 V))))
        (Proc.devRef .tc main_v24) i
      = Ideal.ofBits .f32 (IntOp.shli .host (IntOp.addi (Scale.word (V (Proc.devRef .tc main_v2) (ix2 0 0))) 127#32) 23#32) := by
  after_reads_at
  have h := count_eq (V (Proc.devRef .tc main_v2) (ix2 0 0)) i
  unfold Scale.word Scale.wordOf
  rw [← h]
  rfl

/-- The reciprocal of the scale that region 1 multiplies with. -/
theorem inv_at (V : Valuation τ sig (Elt Ideal)) :
    StableHlo.after hostOps1_4 (StableHlo.after hostOps1_3 (StableHlo.after hostOps1_2 (StableHlo.after hostOps1_1 (StableHlo.after hostOps1 V))))
        (Proc.devRef .tc main_v29) (ix2 0 0)
      = Ideal.ofBits .f32 (IntOp.shli .host (IntOp.addi (-(Scale.word (V (Proc.devRef .tc main_v2) (ix2 0 0)))) 127#32) 23#32) := by
  after_reads_at
  have h := count_eq (V (Proc.devRef .tc main_v2) (ix2 0 0)) ix0
  unfold Scale.word Scale.wordOf
  rw [← h]
  rfl

/-- The factor that region 2 multiplies with: the activations' scale times the gradient's. -/
theorem factor_at (V : Valuation τ sig (Elt Ideal)) :
    StableHlo.after hostOps2 V (Proc.devRef .tc main_v32) (ix2 0 0)
      = FloatOps.mulf (F := Ideal) (φ := .f32) (V (Proc.devRef .tc main_arg1) ix0) (V (Proc.devRef .tc main_v24) ix0) := by
  after_reads_at

/-- Region 0's and region 1's input is the reshaped gradient. -/
theorem dy_at (V : Valuation τ sig (Elt Ideal)) (i : S6144x6912.Idx) :
    StableHlo.after hostOps0 V (Proc.devRef .tc main_v1) i = shapeCast S6144x6912 (V (Proc.devRef .tc main_arg2)) shapeCasts_S6x1024x6912_S6144x6912 i := by
  after_results
  rfl

/-- Region 2's activations are the reshaped activations. -/
theorem x_at (V : Valuation τ sig (Elt Ideal)) (i : S6144x5120.Idx) :
    StableHlo.after hostOps0 V (Proc.devRef .tc main_v0) i = shapeCast S6144x5120 (V (Proc.devRef .tc main_arg0)) shapeCasts_S6x1024x5120_S6144x5120 i := by
  after_results
  rfl

/-- The codes returned are region 1's result, reshaped back. -/
theorem codes_at (V : Valuation τ sig (Elt Ideal)) (i : S6x1024x6912.Idx) :
    StableHlo.after hostOps3 V (Proc.devRef .tc main_v34) i = shapeCast S6x1024x6912 (V (Proc.devRef .tc main_v30)) shapeCasts_S6144x6912_S6x1024x6912 i := by
  after_results
  rfl

end Cert.KernelIdeal.Host

end
-- ==== Proof.KernelIdeal.Value.lean ====
/- The arrays the kernel's three regions leave, at the extended reals, as functions of the arrays they read: the largest
   magnitude, the codes, and the gradient tile by tile put together. -/
module

public import proofs.«01_k».proof.Proof.KernelIdeal.Host
public import Idealize.ShloMosaic.PureOps.Reduce
public import Idealize.ShloMosaic.Lib.ValueIdxCore

@[expose] public section

noncomputable section

namespace Cert.KernelIdeal.Arrays

open Cert.KernelIdeal Cert.KernelIdeal.Gen Cert.KernelIdeal.Run Idealize.ShloMosaic Idealize.ShloMosaic.TcCoe Idealize.SL.Sem
open Idealize.ShloMosaic.Pipeline (Dat)

-- `V`: the core's buffer contents when a region is entered.
variable (V : (c : Dev nD) → (b : Ref sig .tc) → Buf (Elt Ideal) ((c : Thread nD τ).loc b))

/-! ## Region 0: the largest magnitude -/

/-- The magnitude. -/
abbrev mag (d : EReal) : EReal := max d (-d)

/-- A block's maxima are all at most `b` exactly when the block's magnitudes are. -/
theorem pay1_le (v : Vec Ideal S256x6912 .bf16) (b : EReal) :
    (∀ j, (k0_pay1 v j : EReal) ≤ b) ↔ ∀ k, mag (v k) ≤ b := by
  unfold k0_pay1
  rw [shapeCast_self]
  refine Iff.trans (forall_congr' fun j => ?_) ((Scale.forall_fold_max (fun i => reduces_S16x16x6912_S16x6912.drop i)
    (shapeCast S16x16x6912 (absf (F := Ideal) (φ := .bf16) v) shapeCasts_S256x6912_S16x16x6912) b).trans
    (Scale.forall_shapeCast (absf (F := Ideal) (φ := .bf16) v) shapeCasts_S256x6912_S16x16x6912 (fun y : EReal => y ≤ b)))
  have e := multiReduction_maximumf_eq_fold (F := Ideal) (φ := .bf16)
    (shapeCast S16x16x6912 (absf (F := Ideal) (φ := .bf16) v) shapeCasts_S256x6912_S16x16x6912) 0xFF80#16 reduces_S16x16x6912_S16x6912 (.inr rfl) rfl j
  rw [e, ← Scale.ofBits_bf16_bot]
  rfl

/-- The scratch after point `n` is at most `b` exactly when the blocks up to `n` are. -/
theorem acc_le (c : Dev nD) (b : EReal) : ∀ (n : ℕ) (hn : n < cfg0.N),
    (∀ j, (acc V c n hn j : EReal) ≤ b) ↔ ∀ t : Fin cfg0.N, t.val ≤ n → ∀ k : S256x6912.Idx, mag ((iblk0 V c 0 t : Vec Ideal S256x6912 .bf16) k) ≤ b
  | 0, hn => by
    unfold acc k0_pay2
    rw [shapeCast_self, pay1_le]
    refine ⟨fun H t ht => ?_, fun H => H ⟨0, hn⟩ le_rfl⟩
    obtain rfl : t = ⟨0, hn⟩ := Fin.ext (Nat.le_zero.1 ht)
    exact H
  | n + 1, hn => by
    unfold acc k0_pay3
    rw [shapeCast_self]
    have e : ∀ j, ((maximumf (F := Ideal) (φ := .bf16) (acc V c n (Nat.lt_of_succ_lt hn)) (k0_pay1 (iblk0 V c 0 ⟨n + 1, hn⟩)) j : EReal) ≤ b)
        ↔ ((acc V c n (Nat.lt_of_succ_lt hn) j : EReal) ≤ b ∧ (k0_pay1 (iblk0 V c 0 ⟨n + 1, hn⟩ : Vec Ideal S256x6912 .bf16) j : EReal) ≤ b) :=
      fun j => max_le_iff
    rw [forall_congr' e, forall_and, acc_le c b n, pay1_le]
    refine ⟨fun H t ht => ?_, fun H => ⟨fun t ht => H t (Nat.le_succ_of_le ht), H ⟨n + 1, hn⟩ le_rfl⟩⟩
    rcases Nat.lt_or_ge n t.val with h | h
    · obtain rfl : t = ⟨n + 1, hn⟩ := Fin.ext (Nat.le_antisymm ht h)
      exact H.2
    · exact H.1 t h

/-- The one entry of a reshaped one-entry array. -/
theorem extract_one (M : S1.Idx → EReal) (j : S1.Idx) :
    extractAt ![0, 0, 0] (shapeCast S1x1x1 M shapeCasts_S1_S1x1x1) inpos_S1x1x1_p0_0_0 = M j := by
  refine congrArg M (funext fun a => ?_)
  match a with
  | ⟨0, _⟩ => exact Subsingleton.elim (α := Fin 1) _ _

/-- The word stored at the last point is the scratch's largest entry. -/
theorem pay4_le (v : Vec Ideal S16x6912 .bf16) (b : EReal) : (k0_pay4 v : EReal) ≤ b ↔ ∀ j, (v j : EReal) ≤ b := by
  have hM : ∀ j : S1.Idx, k0_pay4 v = multiReduction .maximumf [1, 2] S1
      (shapeCast S1x16x6912 (extf (F := Ideal) .f32 v bitsLt_bf16_f32) shapeCasts_S16x6912_S1x16x6912) 0xFF800000#32 reduces_S1x16x6912_S1 (.inl rfl) rfl j := by
    intro j
    unfold k0_pay4
    exact extract_one _ j
  refine Iff.trans ?_ ((Scale.forall_fold_max (fun i => reduces_S1x16x6912_S1.drop i)
    (shapeCast S1x16x6912 (extf (F := Ideal) .f32 v bitsLt_bf16_f32) shapeCasts_S16x6912_S1x16x6912) b).trans
    (Scale.forall_shapeCast (extf (F := Ideal) .f32 v bitsLt_bf16_f32) shapeCasts_S16x6912_S1x16x6912 (fun y : EReal => y ≤ b)))
  refine (⟨fun H _ => H, fun H => H (Shape.Idx.first (by decide))⟩ : (k0_pay4 v : EReal) ≤ b ↔ ∀ _ : S1.Idx, (k0_pay4 v : EReal) ≤ b).trans
    (forall_congr' fun j => ?_)
  have e := multiReduction_maximumf_eq_fold (F := Ideal) (φ := .f32)
    (shapeCast S1x16x6912 (extf (F := Ideal) .f32 v bitsLt_bf16_f32) shapeCasts_S16x6912_S1x16x6912) 0xFF800000#32 reduces_S1x16x6912_S1 (.inl rfl) rfl j
  rw [hM j, e, ← Scale.ofBits_f32_bot]
  rfl

/-- Window 0's block at point `t` is the 256 rows from `256 t` of its array. -/
theorem idx0_0 : ∀ t : Fin cfg0.N, win0_0.index t (0 : Fin 2) = t.val ∧ win0_0.index t (1 : Fin 2) = 0 := (by decide +kernel : ∀ t : Fin grid0.N, _)
theorem idx0_1 : ∀ t : Fin cfg0.N, win0_1.index t (0 : Fin 2) = 0 ∧ win0_1.index t (1 : Fin 2) = 0 := (by decide +kernel : ∀ t : Fin grid0.N, _)

theorem iblk0_apply (c : Dev nD) (t : Fin cfg0.N) (k : S256x6912.Idx) (i : S6144x6912.Idx) (h0 : (i 0).val = t.val * 256 + (k 0).val)
    (h1 : (i 1).val = (k 1).val) : (iblk0 V c 0 t : Vec Ideal S256x6912 .bf16) k = V c main_v1 i := by
  obtain ⟨e0, e1⟩ := idx0_0 t
  show V c main_v1 (((cfg0.win 0).blk t).view.emb k) = V c main_v1 i
  congr 1
  funext a; apply Fin.ext
  match a with
  | ⟨0, _⟩ => show win0_0.index t (0 : Fin 2) * 256 + 1 * (k 0).val = (i 0).val; omega
  | ⟨1, _⟩ => show win0_0.index t (1 : Fin 2) * 6912 + 1 * (k 1).val = (i 1).val; omega

/-- All the blocks' magnitudes are at most `b` exactly when the array's are. -/
theorem blocks_le (c : Dev nD) (b : EReal) :
    (∀ t : Fin cfg0.N, ∀ k : S256x6912.Idx, mag ((iblk0 V c 0 t : Vec Ideal S256x6912 .bf16) k) ≤ b)
      ↔ ∀ i : S6144x6912.Idx, mag ((V c main_v1 : Vec Ideal S6144x6912 .bf16) i) ≤ b := by
  constructor
  · intro H i
    have hi : (i 0).val < 6144 := (i 0).isLt
    have ht : (i 0).val / 256 < cfg0.N := by show _ < 24; omega
    have h := H ⟨(i 0).val / 256, ht⟩ (ix2 ⟨(i 0).val % 256, Nat.mod_lt _ (by decide)⟩ (i 1))
    rw [iblk0_apply V c _ _ i (by show (i 0).val = (i 0).val / 256 * 256 + (i 0).val % 256; omega) rfl] at h
    exact h
  · intro H t k
    have hk : (k 0).val < 256 := (k 0).isLt
    have ht : t.val < 24 := t.isLt
    rw [iblk0_apply V c t k (ix2 ⟨t.val * 256 + (k 0).val, by omega⟩ (k 1)) rfl rfl]
    exact H _

theorem emb0_1 (t : Fin cfg0.N) (j : S1x1.Idx) : ((cfg0.win 1).blk t).view.emb j = j := by
  obtain ⟨e0, e1⟩ := idx0_1 t
  funext a; apply Fin.ext
  match a with
  | ⟨0, _⟩ => show win0_1.index t (0 : Fin 2) * 1 + 1 * (j 0).val = (j 0).val; omega
  | ⟨1, _⟩ => show win0_1.index t (1 : Fin 2) * 1 + 1 * (j 1).val = (j 1).val; omega

/-- Region 0's result is the word `y` stored at the last point `n`. -/
theorem amax_eq (c : Dev nD) (y : EReal) (n : ℕ) (hn : n < cfg0.N) (h : n = 23) (hy : ∀ m hm, m = n → k0_pay4 (acc V c m hm) = y) :
    (dat0 V c).arrAt 1 cfg0.N = fun _ => y := by
  refine (dat0 V c).arrAt_eq_of_cover 1 (fun _ => y) (fun t hf => ?_) (fun i => ?_)
  · have ht : t.val = n := by have := (flush0_1 t).1 hf; have : t.val < 24 := t.isLt; omega
    show (cfg0.win 1).cut (grid0.coords _) ((dat0 V c).after 1 _) = _
    rw [after0_1, hy _ _ ht]
    rfl
  · refine ⟨⟨n, hn⟩, (flush0_1 _).2 (by show n % 24 = 23; omega), ?_⟩
    have h := ((cfg0.win 1).blk (⟨n, hn⟩ : Fin cfg0.N)).view.emb_mem_set i
    rwa [emb0_1] at h

/-- The scratch after a point depends on the point's number alone. -/
theorem acc_congr (c : Dev nD) (m n : ℕ) (hm : m < cfg0.N) (hn : n < cfg0.N) (e : m = n) : acc V c m hm = acc V c n hn := by
  subst e; rfl

/-- Region 0's result is the array's largest magnitude. -/
theorem amax_largest (c : Dev nD) : Scale.Largest (ι := S6144x6912.Idx) ((dat0 V c).arrAt 1 cfg0.N (ix2 0 0)) (V c main_v1) := by
  intro b
  obtain ⟨n, h⟩ : ∃ n, n = 23 := ⟨_, rfl⟩
  have hn : n < cfg0.N := by show n < 24; omega
  rw [amax_eq V c (k0_pay4 (acc V c n hn)) n hn h fun m hm e => congrArg k0_pay4 (acc_congr V c m n hm hn e), pay4_le, acc_le, ← blocks_le]
  exact ⟨fun H t => H t (by have : t.val < 24 := t.isLt; omega), fun H t _ => H t⟩

/-! ## Region 1: the codes -/

theorem idx1_0 : ∀ t : Fin cfg1.N, win1_0.index t (0 : Fin 2) = 0 ∧ win1_0.index t (1 : Fin 2) = 0 := (by decide +kernel : ∀ t : Fin grid1.N, _)
theorem idx1_1 : ∀ t : Fin cfg1.N, win1_1.index t (0 : Fin 2) = t.val ∧ win1_1.index t (1 : Fin 2) = 0 := (by decide +kernel : ∀ t : Fin grid1.N, _)
theorem idx1_2 : ∀ t : Fin cfg1.N, win1_2.index t (0 : Fin 2) = t.val ∧ win1_2.index t (1 : Fin 2) = 0 := (by decide +kernel : ∀ t : Fin grid1.N, _)

/-- Where the codes' block lies. -/
theorem emb1_2 (t : Fin cfg1.N) (k : S256x6912.Idx) (i : S6144x6912.Idx) (h0 : (i 0).val = t.val * 256 + (k 0).val)
    (h1 : (i 1).val = (k 1).val) : ((cfg1.win 2).blk t).view.emb k = i := by
  obtain ⟨e0, e1⟩ := idx1_2 t
  funext a; apply Fin.ext
  match a with
  | ⟨0, _⟩ => show win1_2.index t (0 : Fin 2) * 256 + 1 * (k 0).val = (i 0).val; omega
  | ⟨1, _⟩ => show win1_2.index t (1 : Fin 2) * 6912 + 1 * (k 1).val = (i 1).val; omega
theorem iblk1_1_apply (c : Dev nD) (t : Fin cfg1.N) (k : S256x6912.Idx) (i : S6144x6912.Idx) (h0 : (i 0).val = t.val * 256 + (k 0).val)
    (h1 : (i 1).val = (k 1).val) : (iblk1 V c 1 t : Vec Ideal S256x6912 .bf16) k = V c main_v1 i := by
  obtain ⟨e0, e1⟩ := idx1_1 t
  show V c main_v1 (((cfg1.win 1).blk t).view.emb k) = V c main_v1 i
  congr 1
  funext a; apply Fin.ext
  match a with
  | ⟨0, _⟩ => show win1_1.index t (0 : Fin 2) * 256 + 1 * (k 0).val = (i 0).val; omega
  | ⟨1, _⟩ => show win1_1.index t (1 : Fin 2) * 6912 + 1 * (k 1).val = (i 1).val; omega
theorem iblk1_0_apply (c : Dev nD) (t : Fin cfg1.N) (k : S1x1.Idx) : (iblk1 V c 0 t : Vec Ideal S1x1 .f32) k = V c main_v29 k := by
  obtain ⟨e0, e1⟩ := idx1_0 t
  show V c main_v29 (((cfg1.win 0).blk t).view.emb k) = V c main_v29 k
  congr 1
  funext a; apply Fin.ext
  match a with
  | ⟨0, _⟩ => show win1_0.index t (0 : Fin 2) * 1 + 1 * (k 0).val = (k 0).val; omega
  | ⟨1, _⟩ => show win1_0.index t (1 : Fin 2) * 1 + 1 * (k 1).val = (k 1).val; omega

/-- The codes as one function of the gradient `d` and the reciprocal `s`. -/
def codes {ι : Type} (d : ι → EReal) (s : EReal) : ι → EReal := fun i => Scale.code (d i) s

theorem codes_eq (c : Dev nD) : (dat1 V c).arrAt 2 cfg1.N = codes (ι := S6144x6912.Idx) (V c main_v1) (V c main_v29 o11) := by
  refine (dat1 V c).arrAt_eq_of_cover 2 (codes (ι := S6144x6912.Idx) (V c main_v1) (V c main_v29 o11)) (fun t _ => ?_) (fun i => ?_)
  · show (cfg1.win 2).cut (grid1.coords _) ((dat1 V c).after 2 _) = _
    rw [after1_2]
    funext k
    have hk : (k 0).val < 256 := (k 0).isLt
    have ht : t.val < 24 := t.isLt
    show k1_pay1 (iblk1 V c 1 t) ((iblk1 V c 0 t : Vec Ideal S1x1 .f32) o11) k = codes (ι := S6144x6912.Idx) (V c main_v1) (V c main_v29 o11) (((cfg1.win 2).blk t).view.emb k)
    rw [emb1_2 t k (ix2 ⟨t.val * 256 + (k 0).val, by omega⟩ (k 1)) rfl rfl, iblk1_0_apply]
    unfold codes k1_pay1
    rw [← iblk1_1_apply V c t k (ix2 ⟨t.val * 256 + (k 0).val, by omega⟩ (k 1)) rfl rfl, shapeCast_self]
    rfl
  · have hi : (i 0).val < 6144 := (i 0).isLt
    have ht : (i 0).val / 256 < cfg1.N := by show _ < 24; omega
    refine ⟨⟨(i 0).val / 256, ht⟩, flush1_2 _, ?_⟩
    have h := ((cfg1.win 2).blk (⟨(i 0).val / 256, ht⟩ : Fin cfg1.N)).view.emb_mem_set (ix2 ⟨(i 0).val % 256, Nat.mod_lt _ (by decide)⟩ (i 1))
    rwa [emb1_2 _ _ i (by show (i 0).val = (i 0).val / 256 * 256 + (i 0).val % 256; omega) rfl] at h

/-! ## Region 2: the gradient -/

theorem idx2_0 : ∀ t : Fin cfg2.N, win2_0.index t (0 : Fin 2) = 0 ∧ win2_0.index t (1 : Fin 2) = 0 := (by decide +kernel : ∀ t : Fin grid2.N, _)
theorem idx2_1 : ∀ t : Fin cfg2.N, win2_1.index t (0 : Fin 2) = 0 ∧ win2_1.index t (1 : Fin 2) = t.val / 9 := (by decide +kernel : ∀ t : Fin grid2.N, _)
theorem idx2_2 : ∀ t : Fin cfg2.N, win2_2.index t (0 : Fin 2) = 0 ∧ win2_2.index t (1 : Fin 2) = t.val % 9 := (by decide +kernel : ∀ t : Fin grid2.N, _)
theorem idx2_3 : ∀ t : Fin cfg2.N, win2_3.index t (0 : Fin 2) = t.val / 9 ∧ win2_3.index t (1 : Fin 2) = t.val % 9 := (by decide +kernel : ∀ t : Fin grid2.N, _)
theorem idx2_4 : ∀ t : Fin cfg2.N, win2_4.index t (0 : Fin 2) = t.val / 9 ∧ win2_4.index t (1 : Fin 2) = t.val % 9 := (by decide +kernel : ∀ t : Fin grid2.N, _)

/-- Where the gradient's tile lies, and what the tiles and blocks it is computed from hold. -/
theorem emb2_4 (t : Fin cfg2.N) (k : S1024x768.Idx) (i : S5120x6912.Idx) (h0 : (i 0).val = t.val / 9 * 1024 + (k 0).val)
    (h1 : (i 1).val = t.val % 9 * 768 + (k 1).val) : ((cfg2.win 4).blk t).view.emb k = i := by
  obtain ⟨e0, e1⟩ := idx2_4 t
  funext a; apply Fin.ext
  match a with
  | ⟨0, _⟩ => show win2_4.index t (0 : Fin 2) * 1024 + 1 * (k 0).val = (i 0).val; rw [e0]; omega
  | ⟨1, _⟩ => show win2_4.index t (1 : Fin 2) * 768 + 1 * (k 1).val = (i 1).val; rw [e1]; omega
theorem iblk2_3_apply (c : Dev nD) (t : Fin cfg2.N) (k : S1024x768.Idx) (i : S5120x6912.Idx) (h0 : (i 0).val = t.val / 9 * 1024 + (k 0).val)
    (h1 : (i 1).val = t.val % 9 * 768 + (k 1).val) : (iblk2 V c 3 t : Vec Ideal S1024x768 .f32) k = V c main_arg3 i := by
  obtain ⟨e0, e1⟩ := idx2_3 t
  show V c main_arg3 (((cfg2.win 3).blk t).view.emb k) = V c main_arg3 i
  congr 1
  funext a; apply Fin.ext
  match a with
  | ⟨0, _⟩ => show win2_3.index t (0 : Fin 2) * 1024 + 1 * (k 0).val = (i 0).val; rw [e0]; omega
  | ⟨1, _⟩ => show win2_3.index t (1 : Fin 2) * 768 + 1 * (k 1).val = (i 1).val; rw [e1]; omega
theorem iblk2_1_apply (c : Dev nD) (t : Fin cfg2.N) (k : S6144x1024.Idx) (i : S6144x5120.Idx) (h0 : (i 0).val = (k 0).val)
    (h1 : (i 1).val = t.val / 9 * 1024 + (k 1).val) : (iblk2 V c 1 t : Vec Ideal S6144x1024 .fp8e4m3) k = V c main_v0 i := by
  obtain ⟨e0, e1⟩ := idx2_1 t
  show V c main_v0 (((cfg2.win 1).blk t).view.emb k) = V c main_v0 i
  congr 1
  funext a; apply Fin.ext
  match a with
  | ⟨0, _⟩ => show win2_1.index t (0 : Fin 2) * 6144 + 1 * (k 0).val = (i 0).val; rw [e0]; omega
  | ⟨1, _⟩ => show win2_1.index t (1 : Fin 2) * 1024 + 1 * (k 1).val = (i 1).val; rw [e1]; omega
theorem iblk2_2_apply (c : Dev nD) (t : Fin cfg2.N) (k : S6144x768.Idx) (i : S6144x6912.Idx) (h0 : (i 0).val = (k 0).val)
    (h1 : (i 1).val = t.val % 9 * 768 + (k 1).val) : (iblk2 V c 2 t : Vec Ideal S6144x768 .fp8e5m2) k = V c main_v30 i := by
  obtain ⟨e0, e1⟩ := idx2_2 t
  show V c main_v30 (((cfg2.win 2).blk t).view.emb k) = V c main_v30 i
  congr 1
  funext a; apply Fin.ext
  match a with
  | ⟨0, _⟩ => show win2_2.index t (0 : Fin 2) * 6144 + 1 * (k 0).val = (i 0).val; rw [e0]; omega
  | ⟨1, _⟩ => show win2_2.index t (1 : Fin 2) * 768 + 1 * (k 1).val = (i 1).val; rw [e1]; omega
theorem iblk2_0_apply (c : Dev nD) (t : Fin cfg2.N) (k : S1x1.Idx) : (iblk2 V c 0 t : Vec Ideal S1x1 .f32) k = V c main_v32 k := by
  obtain ⟨e0, e1⟩ := idx2_0 t
  show V c main_v32 (((cfg2.win 0).blk t).view.emb k) = V c main_v32 k
  congr 1
  funext a; apply Fin.ext
  match a with
  | ⟨0, _⟩ => show win2_0.index t (0 : Fin 2) * 1 + 1 * (k 0).val = (k 0).val; omega
  | ⟨1, _⟩ => show win2_0.index t (1 : Fin 2) * 1 + 1 * (k 1).val = (k 1).val; omega

/-- A tile's product at an entry is the sum over all the rows. -/
theorem tile_sum (a : Vec Ideal S6144x1024 .fp8e4m3) (b : Vec Ideal S6144x768 .fp8e5m2) (j : S1024x768.Idx) :
    matmul (F := Ideal) (φ₁ := .fp8e4m3) (φ₂ := .fp8e5m2) dot_S6144x1024_S6144x768_S1024x768_0_0_1_1_n_n none a b (constant S1024x768 .f32 0x00000000#32) j
      = ∑ r : Fin 6144, (a (ix2 r (j 0)) * b (ix2 r (j 1)) : EReal) := by
  refine (Ideal.matmul_constant_zero_apply (φ₁ := .fp8e4m3) (φ₂ := .fp8e5m2) dot_S6144x1024_S6144x768_S1024x768_0_0_1_1_n_n none a b j).trans ?_
  refine ((ValueIdx.contrEquiv1 dot_S6144x1024_S6144x768_S1024x768_0_0_1_1_n_n 6144 rfl rfl).symm.sum_comp _).symm.trans
    (Finset.sum_congr rfl fun r _ => ?_)
  congr 2
  · funext d
    match d with
    | ⟨0, _⟩ => rfl
    | ⟨1, _⟩ => rfl
  · funext d
    match d with
    | ⟨0, _⟩ => rfl
    | ⟨1, _⟩ => rfl

/-- The gradient as one function of the activations `x`, the codes `q`, the array `w` added to and the factor `s`. -/
def grad (x : S6144x5120.Idx → EReal) (q : S6144x6912.Idx → EReal) (w : S5120x6912.Idx → EReal) (s : EReal) : S5120x6912.Idx → EReal :=
  fun i => w i + (∑ r : Fin 6144, x (ix2 r (i 0)) * q (ix2 r (i 1))) * s

theorem grad_eq (c : Dev nD) : (dat2 V c).arrAt 4 cfg2.N = grad (V c main_v0) (V c main_v30) (V c main_arg3) (V c main_v32 o11) := by
  refine (dat2 V c).arrAt_eq_of_cover 4 (grad (V c main_v0) (V c main_v30) (V c main_arg3) (V c main_v32 o11)) (fun t _ => ?_) (fun i => ?_)
  · show (cfg2.win 4).cut (grid2.coords _) ((dat2 V c).after 4 _) = _
    rw [after2_4]
    funext k
    have hk0 : (k 0).val < 1024 := (k 0).isLt
    have hk1 : (k 1).val < 768 := (k 1).isLt
    have ht : t.val < 45 := t.isLt
    show k2_pay1 (iblk2 V c 1 t) (iblk2 V c 2 t) (iblk2 V c 3 t) ((iblk2 V c 0 t : Vec Ideal S1x1 .f32) o11) k
      = grad (V c main_v0) (V c main_v30) (V c main_arg3) (V c main_v32 o11) (((cfg2.win 4).blk t).view.emb k)
    have hi0 : t.val / 9 * 1024 + (k 0).val < 5120 := by omega
    have hi1 : t.val % 9 * 768 + (k 1).val < 6912 := by omega
    rw [emb2_4 t k (ix2 ⟨t.val / 9 * 1024 + (k 0).val, hi0⟩ ⟨t.val % 9 * 768 + (k 1).val, hi1⟩) rfl rfl, iblk2_0_apply]
    unfold grad k2_pay1
    rw [shapeCast_self, shapeCast_self,
      ← iblk2_3_apply V c t k (ix2 ⟨t.val / 9 * 1024 + (k 0).val, hi0⟩ ⟨t.val % 9 * 768 + (k 1).val, hi1⟩) rfl rfl]
    refine congrArg (fun x : EReal => FloatOps.addf (F := Ideal) (φ := .f32) ((iblk2 V c 3 t : Vec Ideal S1024x768 .f32) k) (FloatOps.mulf (F := Ideal) (φ := .f32) x (V c main_v32 o11)))
      ((tile_sum _ _ k).trans (Finset.sum_congr rfl fun r _ => ?_))
    exact congrArg₂ (fun x y : EReal => x * y)
      (iblk2_1_apply V c t (ix2 r (k 0)) (ix2 r ⟨t.val / 9 * 1024 + (k 0).val, hi0⟩) rfl rfl)
      (iblk2_2_apply V c t (ix2 r (k 1)) (ix2 r ⟨t.val % 9 * 768 + (k 1).val, hi1⟩) rfl rfl)
  · have hi0 : (i 0).val < 5120 := (i 0).isLt
    have hi1 : (i 1).val < 6912 := (i 1).isLt
    have ht : (i 0).val / 1024 * 9 + (i 1).val / 768 < cfg2.N := by show _ < 45; omega
    refine ⟨⟨(i 0).val / 1024 * 9 + (i 1).val / 768, ht⟩, flush2_4 _, ?_⟩
    have h := ((cfg2.win 4).blk (⟨(i 0).val / 1024 * 9 + (i 1).val / 768, ht⟩ : Fin cfg2.N)).view.emb_mem_set
      (ix2 ⟨(i 0).val % 1024, Nat.mod_lt _ (by decide)⟩ ⟨(i 1).val % 768, Nat.mod_lt _ (by decide)⟩)
    rwa [emb2_4 _ _ i
      (by show (i 0).val = ((i 0).val / 1024 * 9 + (i 1).val / 768) / 9 * 1024 + (i 0).val % 1024; omega)
      (by show (i 1).val = ((i 0).val / 1024 * 9 + (i 1).val / 768) % 9 * 768 + (i 1).val % 768; omega)] at h

end Cert.KernelIdeal.Arrays

end
-- ==== Proof.KernelIdeal.Results.lean ====
/- The three results of the kernel's run at the extended reals, as functions of its arguments and of the largest |dy|. -/
module

public import proofs.«01_k».proof.Proof.KernelIdeal.Value

@[expose] public section

noncomputable section

namespace Cert.KernelIdeal.Results

open Cert.KernelIdeal Cert.KernelIdeal.Gen Cert.KernelIdeal.Run Cert.KernelIdeal.Arrays Idealize.ShloMosaic Idealize.ShloMosaic.TcCoe Idealize.SL.Sem

variable (m : (ℓ : Loc nD τ sig) → Buf (Elt Ideal) ℓ) (ρ : Dev nD → PrngReg) (c : Dev nD)

/-- The word region 0 leaves. -/
def amax : EReal := W2 m ρ c (Proc.devRef .tc main_v2) (ix2 0 0)
/-- The scale built from it, and the reciprocal of the scale. -/
def scale : EReal := Ideal.ofBits .f32 (IntOp.shli .host (IntOp.addi (Scale.word (amax m ρ c)) 127#32) 23#32)
def inv : EReal := Ideal.ofBits .f32 (IntOp.shli .host (IntOp.addi (-(Scale.word (amax m ρ c))) 127#32) 23#32)

theorem V1_v1 : V1 m ρ c main_v1 = shapeCast S6144x6912 (m ((c : Thread nD τ).loc main_arg2)) shapeCasts_S6x1024x6912_S6144x6912 :=
  funext fun i => Host.dy_at (W0 m ρ c) i
theorem V1_v0 : V1 m ρ c main_v0 = shapeCast S6144x5120 (m ((c : Thread nD τ).loc main_arg0)) shapeCasts_S6x1024x5120_S6144x5120 :=
  funext fun i => Host.x_at (W0 m ρ c) i

/-- Region 0's word is the largest magnitude of the gradient `dy`. -/
theorem amax_largest : Scale.Largest (ι := S6x1024x6912.Idx) (amax m ρ c) (m ((c : Thread nD τ).loc main_arg2)) := by
  have h := Arrays.amax_largest (V1 m ρ) c
  rw [V1_v1] at h
  have e : amax m ρ c = (dat0 (V1 m ρ) c).arrAt 1 cfg0.N (ix2 0 0) := congrFun (W2_arr m ρ c 1) (ix2 0 0)
  rw [e]
  exact h.of_shapeCast

/-- The arrays that the host stretches and regions in between leave as they were. -/
theorem W7_v1 : W7 m ρ c (Proc.devRef .tc main_v1) = W1 m ρ c (Proc.devRef .tc main_v1) :=
  (W7_of m ρ c main_v1 (by decide)).trans ((W6_of m ρ c main_v1 (by decide)).trans ((W5_of m ρ c main_v1 (by decide)).trans
    ((W4_of m ρ c main_v1 (by decide)).trans ((W3_of m ρ c main_v1 (by decide)).trans (W2_of m ρ c main_v1 (by decide))))))
theorem W9_v0 : W9 m ρ c (Proc.devRef .tc main_v0) = W1 m ρ c (Proc.devRef .tc main_v0) :=
  (W9_of m ρ c main_v0 (by decide)).trans ((W8_of m ρ c main_v0 (by decide)).trans
    ((W7_of m ρ c main_v0 (by decide)).trans ((W6_of m ρ c main_v0 (by decide)).trans ((W5_of m ρ c main_v0 (by decide)).trans
      ((W4_of m ρ c main_v0 (by decide)).trans ((W3_of m ρ c main_v0 (by decide)).trans (W2_of m ρ c main_v0 (by decide))))))))
theorem W8_v24 : W8 m ρ c (Proc.devRef .tc main_v24) = fun _ => scale m ρ c :=
  (W8_of m ρ c main_v24 (by decide)).trans (funext fun i => Host.scale_at (W2 m ρ c) i)
theorem V7_v29 : V7 m ρ c main_v29 o11 = inv m ρ c :=
  (congrArg _ (eq_o11 (ix2 0 0)).symm).trans (Host.inv_at (W2 m ρ c))

/-- Region 1's codes. -/
theorem W8_v30 : W8 m ρ c (Proc.devRef .tc main_v30)
    = shapeCast S6144x6912 (codes (ι := S6x1024x6912.Idx) (m ((c : Thread nD τ).loc main_arg2)) (inv m ρ c)) shapeCasts_S6x1024x6912_S6144x6912 := by
  refine (W8_arr m ρ c 2).trans ((codes_eq (V7 m ρ) c).trans ?_)
  have e : V7 m ρ c main_v1 = shapeCast S6144x6912 (m ((c : Thread nD τ).loc main_arg2)) shapeCasts_S6x1024x6912_S6144x6912 :=
    (W7_v1 m ρ c).trans (V1_v1 m ρ c)
  rw [V7_v29, e]
  rfl
theorem W9_v30 : W9 m ρ c (Proc.devRef .tc main_v30) = W8 m ρ c (Proc.devRef .tc main_v30) := W9_of m ρ c main_v30 (by decide)

/-- The scale returned. -/
theorem out_scale : W11 m ρ c (Proc.devRef .tc main_v24) = fun _ => scale m ρ c :=
  (W11_of m ρ c main_v24 (by decide)).trans ((W10_of m ρ c main_v24 (by decide)).trans
    ((W9_of m ρ c main_v24 (by decide)).trans (W8_v24 m ρ c)))

/-- The codes returned: each value of `dy` times the reciprocal, clipped. -/
theorem out_codes : W11 m ρ c (Proc.devRef .tc main_v34)
    = codes (ι := S6x1024x6912.Idx) (m ((c : Thread nD τ).loc main_arg2)) (inv m ρ c) := by
  refine (funext fun i => Host.codes_at (W10 m ρ c) i).trans ?_
  rw [(W10_of m ρ c main_v30 (by decide)).trans ((W9_v30 m ρ c).trans (W8_v30 m ρ c))]
  exact shapeCast_shapeCast _ _ _

/-- The factor region 2 multiplies with. -/
theorem V9_v32 : V9 m ρ c main_v32 o11
    = FloatOps.mulf (F := Ideal) (φ := .f32) (m ((c : Thread nD τ).loc main_arg1) ix0) (scale m ρ c) := by
  refine (congrArg _ (eq_o11 (ix2 0 0)).symm).trans ((Host.factor_at (W8 m ρ c)).trans ?_)
  rw [W8_v24, W8_args m ρ c main_arg1 (by decide)]

/-- The gradient returned: `dw_acc` plus the scaled product of the activations' and the gradient's codes. -/
theorem out_grad : W11 m ρ c (Proc.devRef .tc main_v33)
    = grad (shapeCast S6144x5120 (m ((c : Thread nD τ).loc main_arg0)) shapeCasts_S6x1024x5120_S6144x5120)
        (shapeCast S6144x6912 (codes (ι := S6x1024x6912.Idx) (m ((c : Thread nD τ).loc main_arg2)) (inv m ρ c)) shapeCasts_S6x1024x6912_S6144x6912)
        (m ((c : Thread nD τ).loc main_arg3))
        (FloatOps.mulf (F := Ideal) (φ := .f32) (m ((c : Thread nD τ).loc main_arg1) ix0) (scale m ρ c)) := by
  refine (W11_of m ρ c main_v33 (by decide)).trans ((W10_arr m ρ c 4).trans ((grad_eq (V9 m ρ) c).trans ?_))
  have e0 : V9 m ρ c main_v0 = shapeCast S6144x5120 (m ((c : Thread nD τ).loc main_arg0)) shapeCasts_S6x1024x5120_S6144x5120 :=
    (W9_v0 m ρ c).trans (V1_v0 m ρ c)
  have e1 : V9 m ρ c main_v30
      = shapeCast S6144x6912 (codes (ι := S6x1024x6912.Idx) (m ((c : Thread nD τ).loc main_arg2)) (inv m ρ c)) shapeCasts_S6x1024x6912_S6144x6912 :=
    (W9_v30 m ρ c).trans (W8_v30 m ρ c)
  have e2 : V9 m ρ c main_arg3 = m ((c : Thread nD τ).loc main_arg3) := W9_args m ρ c main_arg3 (by decide)
  rw [e0, e1, e2, V9_v32]

/-- An array of tokens read at batch `p` and place `q`: row `1024 p + q` of the array reshaped to one token axis. -/
theorem token_x (x : S6x1024x5120.Idx → EReal) (p : Fin 6) (q : Fin 1024) (k : Fin 5120) (r : Fin 6144) (h : r.val = q.val + 1024 * p.val) :
    shapeCast S6144x5120 x shapeCasts_S6x1024x5120_S6144x5120 (ix2 r k) = x (ix3 p q k) :=
  shapeCast_apply _ _ (ix2 r k) (ix3 p q k) (by
    rw [Shape.rowMajor_val_two, Shape.rowMajor_val_three]
    show (p.val * 1024 + q.val) * 5120 + k.val = r.val * 5120 + k.val
    omega)
theorem token_q (x : S6x1024x6912.Idx → EReal) (p : Fin 6) (q : Fin 1024) (k : Fin 6912) (r : Fin 6144) (h : r.val = q.val + 1024 * p.val) :
    shapeCast S6144x6912 x shapeCasts_S6x1024x6912_S6144x6912 (ix2 r k) = x (ix3 p q k) :=
  shapeCast_apply _ _ (ix2 r k) (ix3 p q k) (by
    rw [Shape.rowMajor_val_two, Shape.rowMajor_val_three]
    show (p.val * 1024 + q.val) * 6912 + k.val = r.val * 6912 + k.val
    omega)

/-- So the sum over the reshaped arrays' tokens is the double sum over batch and place. -/
theorem sum_tokens (x : S6x1024x5120.Idx → EReal) (y : S6x1024x6912.Idx → EReal) (i : Fin 5120) (j : Fin 6912) :
    (∑ r : Fin 6144, shapeCast S6144x5120 x shapeCasts_S6x1024x5120_S6144x5120 (ix2 r i)
        * shapeCast S6144x6912 y shapeCasts_S6x1024x6912_S6144x6912 (ix2 r j))
      = ∑ p : Fin 6, ∑ q : Fin 1024, x (ix3 p q i) * y (ix3 p q j) := by
  rw [← Fintype.sum_prod_type' fun (p : Fin 6) (q : Fin 1024) => x (ix3 p q i) * y (ix3 p q j)]
  refine (Equiv.sum_comp (finProdFinEquiv : Fin 6 × Fin 1024 ≃ Fin 6144) _).symm.trans (Finset.sum_congr rfl fun a _ => ?_)
  rw [token_x x a.1 a.2 i _ rfl, token_q y a.1 a.2 j _ rfl]

/-- The run's results. -/
theorem run : θ_run defs (onTc (τ := τ) (main (F := Ideal))) ⟨m, fun _ => 0, ρ⟩ fun r => ∀ c : Dev nD,
      r.2.mem ((c : Thread nD τ).loc main_v33) = W11 m ρ c (Proc.devRef .tc main_v33)
      ∧ r.2.mem ((c : Thread nD τ).loc main_v34) = W11 m ρ c (Proc.devRef .tc main_v34)
      ∧ r.2.mem ((c : Thread nD τ).loc main_v24) = W11 m ρ c (Proc.devRef .tc main_v24)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    have ha (a : Ref sig .tc) (hu : ¬ (Proc.devRef .tc a : DevRef τ sig).isScoped) (hm : a ∈ argRefs) :
        r.2.mem ((c : Thread nD τ).loc a) = m ((c : Thread nD τ).loc a) := (h.1 c _ (mem_uc a hu)).trans (W11_args m ρ c a hm)
    ⟨h.1 c _ (mem_uc main_v33 (by decide)), h.1 c _ (mem_uc main_v34 (by decide)), h.1 c _ (mem_uc main_v24 (by decide)),
      ha main_arg0 (by decide) (by decide), ha main_arg1 (by decide) (by decide), ha main_arg2 (by decide) (by decide),
      ha main_arg3 (by decide) (by decide)⟩) (Run.run m ρ)

end Cert.KernelIdeal.Results

end
-- ==== Proof.ReferenceIdeal.Host.lean ====
/- What the reference's host operations leave, at the extended reals: the largest |dy|, and from it the scale, its reciprocal and
   the words that the reference's one region reads. -/
module

public import proofs.«01_k».proof.Proof.Gen.ReferenceIdeal.Value
public import proofs.«01_k».proof.Proof.Scale
public import Idealize.ShloMosaic.Lib.StableHlo.ReadAt
public import Idealize.ShloMosaic.PureOps.Ideal
public import Idealize.ShloMosaic.PureOps.Ideal.Laws

@[expose] public section

noncomputable section

namespace Cert.ReferenceIdeal.Host

open Cert.ReferenceIdeal Cert.ReferenceIdeal.Gen Idealize.ShloMosaic Idealize.ShloMosaic.TcCoe

/-- The host operations up to the maximum, and those after it. -/
abbrev opsMax : List (HloOp τ sig (Elt Ideal)) := hostOps0.take 4
abbrev opsRest : List (HloOp τ sig (Elt Ideal)) := hostOps0.drop 4

/-- What the operations after the maximum leave over `V`. -/
abbrev rest (V : Valuation τ sig (Elt Ideal)) : Valuation τ sig (Elt Ideal) :=
  StableHlo.after hostOps0_4 (StableHlo.after hostOps0_3 (StableHlo.after hostOps0_2 (StableHlo.after hostOps0_1 (StableHlo.after opsRest V))))

/-- The maximum. -/
theorem max_read (V : Valuation τ sig (Elt Ideal)) :
    StableHlo.after opsMax V (Proc.devRef .tc main_v2)
      = Host.reduce (FloatOps.maximumf (F := Ideal) (φ := .f32))
          (Host.absf (extf (F := Ideal) .f32 (V (Proc.devRef .tc main_arg2)) bitsLt_bf16_f32))
          (constant (F := Ideal) S_ .f32 0xFF800000#32) reducesTo_S6x1024x6912_S_d0_1_2 h_S_ := by
  simp only [opsMax, hostOps0, List.take_succ_cons, List.take_zero]
  after_results

/-- The scale, from the maximum. -/
theorem scale_at (V : Valuation τ sig (Elt Ideal)) (i : S_.Idx) :
    rest V (Proc.devRef .tc main_v15) i
      = Ideal.pow (Ideal.ofBits .f32 0x40000000#32) (Scale.expo (V (Proc.devRef .tc main_v2) i)) := by
  simp only [rest, opsRest, hostOps0, List.drop_succ_cons, List.drop_zero]
  after_reads_at
  rfl

/-- The scale as the region reads it. -/
theorem scaleWord_at (V : Valuation τ sig (Elt Ideal)) :
    rest V (Proc.devRef .tc main_v18) (ix2 0 0)
      = Ideal.pow (Ideal.ofBits .f32 0x40000000#32) (Scale.expo (V (Proc.devRef .tc main_v2) ix0)) := by
  simp only [rest, opsRest, hostOps0, List.drop_succ_cons, List.drop_zero]
  after_reads_at
  rfl

/-- The reciprocal of the scale as the region reads it. -/
theorem inv_at (V : Valuation τ sig (Elt Ideal)) :
    rest V (Proc.devRef .tc main_v19) (ix2 0 0)
      = Ideal.pow (Ideal.ofBits .f32 0x40000000#32) (-(Scale.expo (V (Proc.devRef .tc main_v2) ix0))) := by
  simp only [rest, opsRest, hostOps0, List.drop_succ_cons, List.drop_zero]
  after_reads_at
  rfl

/-- The activations' scale as the region reads it. -/
theorem xscale_at (V : Valuation τ sig (Elt Ideal)) :
    rest V (Proc.devRef .tc main_v20) (ix2 0 0) = V (Proc.devRef .tc main_arg1) ix0 := by
  simp only [rest, opsRest, hostOps0, List.drop_succ_cons, List.drop_zero]
  after_reads_at

/-- The maximum's stretch leaves the activations' scale. -/
theorem max_arg1 (V : Valuation τ sig (Elt Ideal)) :
    StableHlo.after opsMax V (Proc.devRef .tc main_arg1) = V (Proc.devRef .tc main_arg1) := by
  simp only [opsMax, hostOps0, List.take_succ_cons, List.take_zero]
  after_results

/-- The host part of the program is the two stretches in a row. -/
theorem V_eq (m : (ℓ : Loc nD τ sig) → Buf (Elt Ideal) ℓ) (c : Dev nD) (b : Ref sig .tc) :
    V m c b = rest (StableHlo.after opsMax fun b => m (c, b)) (Proc.devRef .tc b) := by
  have e : (List.flatten [hostOps0, hostOps0_1, hostOps0_2, hostOps0_3, hostOps0_4] : List (HloOp τ sig (Elt Ideal)))
      = opsMax ++ (opsRest ++ (hostOps0_1 ++ (hostOps0_2 ++ (hostOps0_3 ++ hostOps0_4)))) := rfl
  show StableHlo.after _ _ _ = _
  rw [e, StableHlo.after_append, StableHlo.after_append, StableHlo.after_append, StableHlo.after_append, StableHlo.after_append]

end Cert.ReferenceIdeal.Host

end
-- ==== Proof.ReferenceIdeal.Value.lean ====
/- The reference's two region results as functions of the arrays the region reads: its one grid point stages every array whole and
   stores each result whole. -/
module

public import proofs.«01_k».proof.Proof.ReferenceIdeal.Host

@[expose] public section

noncomputable section

namespace Cert.ReferenceIdeal.Whole

open Cert.ReferenceIdeal Cert.ReferenceIdeal.Gen Cert.ReferenceIdeal.Value Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (arg0 : Memref sig .tc .smem S1x1 .f32) (h0 : arg0.IsWhole) (arg1 : Memref sig .tc .smem S1x1 .f32) (h1 : arg1.IsWhole)
  (arg2 : Memref sig .tc .smem S1x1 .f32) (h2 : arg2.IsWhole) (arg3 : Memref sig .tc .vmem S6x1024x5120 .fp8e4m3) (h3 : arg3.IsWhole)
  (arg4 : Memref sig .tc .vmem S6x1024x6912 .bf16) (h4 : arg4.IsWhole) (arg5 : Memref sig .tc .vmem S5120x6912 .f32) (h5 : arg5.IsWhole)
  (arg6 : Memref sig .tc .vmem S5120x6912 .f32) (h6 : arg6.IsWhole) (arg7 : Memref sig .tc .vmem S6x1024x6912 .fp8e5m2) (h7 : arg7.IsWhole)
  (x0 x1 x2 : Vec F S1x1 .f32) (x3 : Vec F S6x1024x5120 .fp8e4m3) (x4 : Vec F S6x1024x6912 .bf16) (x5 : Vec F S5120x6912 .f32)

/-- A scalar load of a one-word operand reads its word. -/
theorem word_eq (a : Memref sig .tc .smem S1x1 .f32) (h : a.IsWhole) (x : Vec F S1x1 .f32) (k) :
    View.readAt (Elt F) a.view (Rect.unit (s := S1x1) ![0, 0] S1x1.size inb_S1x1_S1x1_0_0).toLoadRect (h.unread x) k = x (ix2 0 0) := by
  rw [View.readAt_eq_ld, h.read_unread, View.ld_unit_zero hz2]
  refine congrArg x (funext fun a => ?_)
  match a with
  | ⟨0, _⟩ => exact Subsingleton.elim (α := Fin 1) _ _
  | ⟨1, _⟩ => exact Subsingleton.elim (α := Fin 1) _ _

/-- The gradient that the run leaves: its one store's payload at the whole operands. -/
theorem out6_eq :
    out0_A_6 c arg0 h0 arg1 h1 arg2 h2 arg3 h3 arg4 h4 arg5 h5 arg6 h6 arg7 h7 x0 x1 x2 x3 x4 x5
      = k0_pay2 x4 (x1 (ix2 0 0)) x3 x5 (x2 (ix2 0 0)) (x0 (ix2 0 0)) := by
  unfold out0_A_6
  rw [View.read_writes_junk_eq_canon]
  show View.canon ([⟨Rect.unit ![0, 0] S5120x6912.size inb_S5120x6912_S5120x6912_0_0,
      k0_pay2
        (View.readAt (Elt F) arg4.view (Rect.unit ![0, 0, 0] S6x1024x6912.size inb_S6x1024x6912_S6x1024x6912_0_0_0).toLoadRect (h4.unread x4))
        (View.readAt (Elt F) arg1.view (Rect.unit (s := S1x1) ![0, 0] S1x1.size inb_S1x1_S1x1_0_0).toLoadRect (h1.unread x1) _)
        (View.readAt (Elt F) arg3.view (Rect.unit ![0, 0, 0] S6x1024x5120.size inb_S6x1024x5120_S6x1024x5120_0_0_0).toLoadRect (h3.unread x3))
        (View.readAt (Elt F) arg5.view (Rect.unit ![0, 0] S5120x6912.size inb_S5120x6912_S5120x6912_0_0).toLoadRect (h5.unread x5))
        (View.readAt (Elt F) arg2.view (Rect.unit (s := S1x1) ![0, 0] S1x1.size inb_S1x1_S1x1_0_0).toLoadRect (h2.unread x2) _)
        (View.readAt (Elt F) arg0.view (Rect.unit (s := S1x1) ![0, 0] S1x1.size inb_S1x1_S1x1_0_0).toLoadRect (h0.unread x0) _)⟩] :
      List (View.Piece (Elt F) S5120x6912 .f32)) = _
  rw [View.canon_unit_zero hz2, word_eq, word_eq, word_eq, View.readAt_eq_ld, View.readAt_eq_ld, View.readAt_eq_ld, h3.read_unread, h4.read_unread,
    h5.read_unread, View.ld_unit_zero hz3, View.ld_unit_zero hz3, View.ld_unit_zero hz2]

/-- The codes that the run leaves, likewise. -/
theorem out7_eq :
    out0_A_7 c arg0 h0 arg1 h1 arg2 h2 arg3 h3 arg4 h4 arg5 h5 arg6 h6 arg7 h7 x0 x1 x2 x3 x4 x5 = k0_pay1 x4 (x1 (ix2 0 0)) := by
  unfold out0_A_7
  rw [View.read_writes_junk_eq_canon]
  show View.canon ([⟨Rect.unit ![0, 0, 0] S6x1024x6912.size inb_S6x1024x6912_S6x1024x6912_0_0_0,
      k0_pay1
        (View.readAt (Elt F) arg4.view (Rect.unit ![0, 0, 0] S6x1024x6912.size inb_S6x1024x6912_S6x1024x6912_0_0_0).toLoadRect (h4.unread x4))
        (View.readAt (Elt F) arg1.view (Rect.unit (s := S1x1) ![0, 0] S1x1.size inb_S1x1_S1x1_0_0).toLoadRect (h1.unread x1) _)⟩] :
      List (View.Piece (Elt F) S6x1024x6912 .fp8e5m2)) = _
  rw [View.canon_unit_zero hz3, word_eq, View.readAt_eq_ld, h4.read_unread, View.ld_unit_zero hz3]

end

variable (m : (ℓ : Loc nD τ sig) → Buf (Elt F) ℓ) (ρ : Dev nD → PrngReg)

/-- Each window's block index at the one grid point is zero on every axis. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

/-- So an index of a window's block is the same index of its array. -/
theorem emb0 (t : Fin cfg0.N) (j : S1x1.Idx) : ((cfg0.win 0).blk t).view.emb j = j := by
  obtain ⟨e0, e1⟩ := idx0 t
  funext a; apply Fin.ext
  match a with
  | ⟨0, _⟩ => show win0_0.index t (0 : Fin 2) * 1 + 1 * (j 0).val = (j 0).val; omega
  | ⟨1, _⟩ => show win0_0.index t (1 : Fin 2) * 1 + 1 * (j 1).val = (j 1).val; omega

theorem emb1 (t : Fin cfg0.N) (j : S1x1.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1 + 1 * (j 1).val = (j 1).val; omega

theorem emb2 (t : Fin cfg0.N) (j : S1x1.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 1 + 1 * (j 1).val = (j 1).val; omega

theorem emb3 (t : Fin cfg0.N) (j : S6x1024x5120.Idx) : ((cfg0.win 3).blk t).view.emb j = j := by
  obtain ⟨e0, e1, e2⟩ := idx3 t
  funext a; apply Fin.ext
  match a with
  | ⟨0, _⟩ => show win0_3.index t (0 : Fin 3) * 6 + 1 * (j 0).val = (j 0).val; omega
  | ⟨1, _⟩ => show win0_3.index t (1 : Fin 3) * 1024 + 1 * (j 1).val = (j 1).val; omega
  | ⟨2, _⟩ => show win0_3.index t (2 : Fin 3) * 5120 + 1 * (j 2).val = (j 2).val; omega

theorem emb4 (t : Fin cfg0.N) (j : S6x1024x6912.Idx) : ((cfg0.win 4).blk t).view.emb j = j := by
  obtain ⟨e0, e1, e2⟩ := idx4 t
  funext a; apply Fin.ext
  match a with
  | ⟨0, _⟩ => show win0_4.index t (0 : Fin 3) * 6 + 1 * (j 0).val = (j 0).val; omega
  | ⟨1, _⟩ => show win0_4.index t (1 : Fin 3) * 1024 + 1 * (j 1).val = (j 1).val; omega
  | ⟨2, _⟩ => show win0_4.index t (2 : Fin 3) * 6912 + 1 * (j 2).val = (j 2).val; omega

theorem emb5 (t : Fin cfg0.N) (j : S5120x6912.Idx) : ((cfg0.win 5).blk t).view.emb j = j := by
  obtain ⟨e0, e1⟩ := idx5 t
  funext a; apply Fin.ext
  match a with
  | ⟨0, _⟩ => show win0_5.index t (0 : Fin 2) * 5120 + 1 * (j 0).val = (j 0).val; omega
  | ⟨1, _⟩ => show win0_5.index t (1 : Fin 2) * 6912 + 1 * (j 1).val = (j 1).val; omega

theorem emb6 (t : Fin cfg0.N) (j : S5120x6912.Idx) : ((cfg0.win 6).blk t).view.emb j = j := by
  obtain ⟨e0, e1⟩ := idx6 t
  funext a; apply Fin.ext
  match a with
  | ⟨0, _⟩ => show win0_6.index t (0 : Fin 2) * 5120 + 1 * (j 0).val = (j 0).val; omega
  | ⟨1, _⟩ => show win0_6.index t (1 : Fin 2) * 6912 + 1 * (j 1).val = (j 1).val; omega

theorem emb7 (t : Fin cfg0.N) (j : S6x1024x6912.Idx) : ((cfg0.win 7).blk t).view.emb j = j := by
  obtain ⟨e0, e1, e2⟩ := idx7 t
  funext a; apply Fin.ext
  match a with
  | ⟨0, _⟩ => show win0_7.index t (0 : Fin 3) * 6 + 1 * (j 0).val = (j 0).val; omega
  | ⟨1, _⟩ => show win0_7.index t (1 : Fin 3) * 1024 + 1 * (j 1).val = (j 1).val; omega
  | ⟨2, _⟩ => show win0_7.index t (2 : Fin 3) * 6912 + 1 * (j 2).val = (j 2).val; omega

/-- So an input window's block is its array as the region finds it. -/
theorem iblk0_eq (c : Dev nD) (t : Fin cfg0.N) : iblk m c 0 t = V m c main_v18 := by
  funext j; show V m c main_v18 (((cfg0.win 0).blk t).view.emb j) = V m c main_v18 j; rw [emb0]
theorem iblk1_eq (c : Dev nD) (t : Fin cfg0.N) : iblk m c 1 t = V m c main_v19 := by
  funext j; show V m c main_v19 (((cfg0.win 1).blk t).view.emb j) = V m c main_v19 j; rw [emb1]
theorem iblk2_eq (c : Dev nD) (t : Fin cfg0.N) : iblk m c 2 t = V m c main_v20 := by
  funext j; show V m c main_v20 (((cfg0.win 2).blk t).view.emb j) = V m c main_v20 j; rw [emb2]
theorem iblk3_eq (c : Dev nD) (t : Fin cfg0.N) : iblk m c 3 t = V m c main_arg0 := by
  funext j; show V m c main_arg0 (((cfg0.win 3).blk t).view.emb j) = V m c main_arg0 j; rw [emb3]
theorem iblk4_eq (c : Dev nD) (t : Fin cfg0.N) : iblk m c 4 t = V m c main_arg2 := by
  funext j; show V m c main_arg2 (((cfg0.win 4).blk t).view.emb j) = V m c main_arg2 j; rw [emb4]
theorem iblk5_eq (c : Dev nD) (t : Fin cfg0.N) : iblk m c 5 t = V m c main_arg3 := by
  funext j; show V m c main_arg3 (((cfg0.win 5).blk t).view.emb j) = V m c main_arg3 j; rw [emb5]

/-- Cutting the point's block out of `X` and reading `X` through the block's view give the same. -/
theorem cut6_eq (t : Fin cfg0.N) (X : Vec F S5120x6912 .f32) : (cfg0.win 6).cut (grid0.coords t) X = ((cfg0.win 6).blk t).view.read (Elt F) X := by
  funext j; show X j = X (((cfg0.win 6).blk t).view.emb j); rw [emb6]
theorem cut7_eq (t : Fin cfg0.N) (X : Vec F S6x1024x6912 .fp8e5m2) : (cfg0.win 7).cut (grid0.coords t) X = ((cfg0.win 7).blk t).view.read (Elt F) X := by
  funext j; show X j = X (((cfg0.win 7).blk t).view.emb j); rw [emb7]

/-- The gradient as a function of the arguments and the words. -/
def G6 (c : Dev nD) : Vec F S5120x6912 .f32 :=
  k0_pay2 (m ((c : Thread nD τ).loc main_arg2)) ((V m c main_v19 : Vec F S1x1 .f32) (ix2 0 0)) (m ((c : Thread nD τ).loc main_arg0))
    (m ((c : Thread nD τ).loc main_arg3)) ((V m c main_v20 : Vec F S1x1 .f32) (ix2 0 0)) ((V m c main_v18 : Vec F S1x1 .f32) (ix2 0 0))
/-- The codes as a function of the argument and the word. -/
def G7 (c : Dev nD) : Vec F S6x1024x6912 .fp8e5m2 :=
  k0_pay1 (m ((c : Thread nD τ).loc main_arg2)) ((V m c main_v19 : Vec F S1x1 .f32) (ix2 0 0))

theorem flushed6_eq (c : Dev nD) (t : Fin cfg0.N) : (dats m 0 c).flushed 6 t = ((cfg0.win 6).blk t).view.read (Elt F) (G6 m c) := by
  rw [flushed6_A, out6_eq, iblk0_eq, iblk1_eq, iblk2_eq, iblk3_eq, iblk4_eq, iblk5_eq, V_main_arg0, V_main_arg2, V_main_arg3]
  exact cut6_eq t _
theorem flushed7_eq (c : Dev nD) (t : Fin cfg0.N) : (dats m 0 c).flushed 7 t = ((cfg0.win 7).blk t).view.read (Elt F) (G7 m c) := by
  rw [flushed7_A, out7_eq, iblk1_eq, iblk4_eq, V_main_arg2]
  exact cut7_eq t _

theorem covered6 (i : S5120x6912.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
theorem covered7 (i : S6x1024x6912.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- The result arrays after the run. -/
theorem final6 (c : Dev nD) : (dats m 0 c).arrAt 6 cfg0.N = G6 m c :=
  (dats m 0 c).arrAt_eq_of_cover 6 (G6 m c) (fun t _ => flushed6_eq m c t) covered6
theorem final7 (c : Dev nD) : (dats m 0 c).arrAt 7 cfg0.N = G7 m c :=
  (dats m 0 c).arrAt_eq_of_cover 7 (G7 m c) (fun t _ => flushed7_eq m c t) covered7

/-- The run of the reference with its three results as functions of the arguments. -/
theorem run : θ_run defs (onTc (τ := τ) (main (F := F))) ⟨m, fun _ => 0, ρ⟩ fun r => ∀ c : Dev nD,
      r.2.mem ((c : Thread nD τ).loc main_v21_0) = G6 m c
      ∧ r.2.mem ((c : Thread nD τ).loc main_v21_1) = G7 m c
      ∧ r.2.mem ((c : Thread nD τ).loc main_v15) = V m c main_v15
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (final6 m c), (post7 m r h c).trans (final7 m c),
      (h c).2 main_v15 (Pipeline.mem_restRefs_of main_v15 (by decide) (by decide)),
      kept_main_arg0 m r h c, kept_main_arg1 m r h c, kept_main_arg2 m r h c, kept_main_arg3 m r h c⟩)
    (run_main m ρ)

end Cert.ReferenceIdeal.Whole

end
-- ==== Proof.ReferenceIdeal.Results.lean ====
/- The three results of the reference's run at the extended reals, as functions of its arguments and of the largest |dy|. -/
module

public import proofs.«01_k».proof.Proof.ReferenceIdeal.Value
public import Idealize.ShloMosaic.PureOps.Reduce
public import Idealize.ShloMosaic.Lib.TwoAxisContraction

@[expose] public section

noncomputable section

namespace Cert.ReferenceIdeal.Results

open Cert.ReferenceIdeal Cert.ReferenceIdeal.Gen Cert.ReferenceIdeal.Value Cert.ReferenceIdeal.Whole Idealize.ShloMosaic Idealize.ShloMosaic.TcCoe

variable (m : (ℓ : Loc nD τ sig) → Buf (Elt Ideal) ℓ) (c : Dev nD)

/-- A reduction of the magnitudes by maximum to one value is their largest. -/
theorem reduce_largest (x : S6x1024x6912.Idx → EReal) : Scale.Largest
    (Host.reduce (FloatOps.maximumf (F := Ideal) (φ := .f32))
      (Host.absf (F := Ideal) (φ := .f32) x) (constant (F := Ideal) S_ .f32 0xFF800000#32) reducesTo_S6x1024x6912_S_d0_1_2 h_S_ ix0) x := by
  intro b
  refine Iff.trans ?_ (Scale.forall_fold_max (fun i => reducesTo_S6x1024x6912_S_d0_1_2.drop i) (fun i => max (x i) (-x i)) b)
  have e : ∀ j : S_.Idx, j = ix0 := fun j => funext fun d => d.elim0
  refine (⟨fun H j => (e j).symm ▸ H, fun H => H ix0⟩ : _ ↔ ∀ j : S_.Idx,
    (Host.reduce (FloatOps.maximumf (F := Ideal) (φ := .f32))
      (Host.absf (F := Ideal) (φ := .f32) x) (constant (F := Ideal) S_ .f32 0xFF800000#32) reducesTo_S6x1024x6912_S_d0_1_2 h_S_ j : EReal) ≤ b).trans
    (forall_congr' fun j => ?_)
  rw [Host.reduce_eq_fold, ← Scale.ofBits_f32_bot]
  rfl

/-- The largest |dy| that the host part computes. -/
def amax : EReal := StableHlo.after Host.opsMax (fun b => m (c, b)) (Proc.devRef .tc main_v2) ix0

theorem amax_largest : Scale.Largest (ι := S6x1024x6912.Idx) (amax m c) (m ((c : Thread nD τ).loc main_arg2)) := by
  have e := congrFun (Host.max_read fun b => m (c, b)) ix0
  unfold amax
  rw [e]
  exact reduce_largest _

/-- The scale and its reciprocal: two to the exponent of the largest |dy|, and to the exponent's negation. -/
def scale : EReal := Ideal.pow (Ideal.ofBits .f32 0x40000000#32) (Scale.expo (amax m c))
def inv : EReal := Ideal.pow (Ideal.ofBits .f32 0x40000000#32) (-(Scale.expo (amax m c)))

theorem out_scale : V m c main_v15 = fun _ => scale m c := by
  funext i
  rw [Host.V_eq, Host.scale_at]
  obtain rfl : i = ix0 := funext fun d => d.elim0
  rfl
theorem V_v18 : V m c main_v18 (ix2 0 0) = scale m c := by
  rw [Host.V_eq, Host.scaleWord_at]; rfl
theorem V_v19 : V m c main_v19 (ix2 0 0) = inv m c := by
  rw [Host.V_eq, Host.inv_at]; rfl
theorem V_v20 : V m c main_v20 (ix2 0 0) = m ((c : Thread nD τ).loc main_arg1) ix0 := by
  rw [Host.V_eq, Host.xscale_at, Host.max_arg1]

theorem pay1_apply (d : Vec Ideal S6x1024x6912 .bf16) (s : EReal) (i : S6x1024x6912.Idx) : k0_pay1 d s i = Scale.code (d i) s := by
  unfold k0_pay1 Scale.code
  rfl

/-- The codes: each value of `dy` times the reciprocal, clipped. -/
theorem out_codes (i : S6x1024x6912.Idx) : G7 m c i = Scale.code (m ((c : Thread nD τ).loc main_arg2) i) (inv m c) := by
  unfold G7
  rw [V_v19]
  exact pay1_apply _ _ i

/-- The sum over batch and sequence of the products of two columns. -/
def tokens (x : S6x1024x5120.Idx → EReal) (y : S6x1024x6912.Idx → EReal) (i : Fin 5120) (j : Fin 6912) : EReal :=
  ∑ p : Fin 6, ∑ q : Fin 1024, x (ix3 p q i) * y (ix3 p q j)

/-- The product of two whole arrays over batch and sequence is the double sum. -/
theorem whole_sum (a : Vec Ideal S6x1024x5120 .fp8e4m3) (b : Vec Ideal S6x1024x6912 .fp8e5m2) (j : S5120x6912.Idx) :
    matmul (F := Ideal) (φ₁ := .fp8e4m3) (φ₂ := .fp8e5m2) dot_S6x1024x5120_S6x1024x6912_S5120x6912_01_01_2_2_n_n none a b (constant S5120x6912 .f32 0x00000000#32) j
      = ∑ p : Fin 6, ∑ q : Fin 1024, (a (ix3 p q (j 0)) * b (ix3 p q (j 1)) : EReal) := by
  refine (Ideal.matmul_constant_zero_apply (φ₁ := .fp8e4m3) (φ₂ := .fp8e5m2) dot_S6x1024x5120_S6x1024x6912_S5120x6912_01_01_2_2_n_n none a b j).trans ?_
  refine (ValueIdx.sum_contr2 dot_S6x1024x5120_S6x1024x6912_S5120x6912_01_01_2_2_n_n 6 1024 rfl rfl rfl _).trans
    (Finset.sum_congr rfl fun p _ => Finset.sum_congr rfl fun q _ => ?_)
  congr 2
  · funext d
    match d with
    | ⟨0, _⟩ => rfl
    | ⟨1, _⟩ => rfl
    | ⟨2, _⟩ => rfl
  · funext d
    match d with
    | ⟨0, _⟩ => rfl
    | ⟨1, _⟩ => rfl
    | ⟨2, _⟩ => rfl

/-- The gradient: `dw_acc` plus the scaled product of the activations' and the gradient's codes. -/
theorem out_grad (i : S5120x6912.Idx) : G6 m c i
    = FloatOps.addf (F := Ideal) (φ := .f32) (m ((c : Thread nD τ).loc main_arg3) i)
        (FloatOps.mulf (F := Ideal) (φ := .f32)
          (tokens (m ((c : Thread nD τ).loc main_arg0)) (G7 m c) (i 0) (i 1))
          (FloatOps.mulf (F := Ideal) (φ := .f32) (m ((c : Thread nD τ).loc main_arg1) ix0) (scale m c))) := by
  unfold G6 G7 k0_pay2
  rw [V_v18, V_v20, V_v19]
  exact congrArg (fun x : EReal => FloatOps.addf (F := Ideal) (φ := .f32) (m ((c : Thread nD τ).loc main_arg3) i)
    (FloatOps.mulf (F := Ideal) (φ := .f32) x
      (FloatOps.mulf (F := Ideal) (φ := .f32) (m ((c : Thread nD τ).loc main_arg1) ix0) (scale m c)))) (whole_sum _ _ i)

end Cert.ReferenceIdeal.Results

end
-- ==== Proof.Algebraic.lean ====
/- The value claim: from equal arguments, whatever they are, the kernel's run and the reference's end with equal results at the
   extended reals. -/
module

public import proofs.«01_k».proof.Defs
public import proofs.«01_k».proof.Proof.KernelIdeal.Results
public import proofs.«01_k».proof.Proof.ReferenceIdeal.Results

@[expose] public section

noncomputable section

namespace Cert.Algebraic

open Idealize.ShloMosaic Idealize.ShloMosaic.TcCoe Idealize.SL.Sem

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h2 in
/-- The kernel's blockwise maximum is the reference's. -/
theorem amax_eq : Cert.KernelIdeal.Results.amax m ρ c = Cert.ReferenceIdeal.Results.amax m' c := by
  have h := Cert.ReferenceIdeal.Results.amax_largest m' c
  rw [h2] at h
  exact (Cert.KernelIdeal.Results.amax_largest m ρ c).unique h

include h2 in
/-- So are the scale and its reciprocal. -/
theorem scale_eq : Cert.ReferenceIdeal.Results.scale m' c = Cert.KernelIdeal.Results.scale m ρ c := by
  unfold Cert.ReferenceIdeal.Results.scale Cert.KernelIdeal.Results.scale
  rw [← amax_eq m ρ m' c h2]
  exact (Scale.scale_eq _).1.symm
include h2 in
theorem inv_eq : Cert.ReferenceIdeal.Results.inv m' c = Cert.KernelIdeal.Results.inv m ρ c := by
  unfold Cert.ReferenceIdeal.Results.inv Cert.KernelIdeal.Results.inv
  rw [← amax_eq m ρ m' c h2]
  exact (Scale.scale_eq _).2.symm

include h2 in
/-- The scales returned are equal. -/
theorem out_scale : Cert.ReferenceIdeal.Gen.V m' c Cert.ReferenceIdeal.main_v15
    = Cert.KernelIdeal.Run.W11 m ρ c (Proc.devRef .tc Cert.KernelIdeal.main_v24) := by
  rw [Cert.ReferenceIdeal.Results.out_scale, Cert.KernelIdeal.Results.out_scale, scale_eq m ρ m' c h2]
  rfl

include h2 in
/-- The reference's codes, as the kernel's function of the argument. -/
theorem codes_eq : Cert.ReferenceIdeal.Whole.G7 m' c
    = Cert.KernelIdeal.Arrays.codes (ι := Cert.KernelIdeal.S6x1024x6912.Idx)
        (m ((c.tc : Thread Cert.KernelIdeal.nD Cert.KernelIdeal.τ).loc Cert.KernelIdeal.main_arg2)) (Cert.KernelIdeal.Results.inv m ρ c) := by
  funext i
  rw [Cert.ReferenceIdeal.Results.out_codes, inv_eq m ρ m' c h2, h2]
  rfl

include h2 in
/-- The codes returned are equal. -/
theorem out_codes : Cert.ReferenceIdeal.Whole.G7 m' c
    = Cert.KernelIdeal.Run.W11 m ρ c (Proc.devRef .tc Cert.KernelIdeal.main_v34) :=
  (codes_eq m ρ m' c h2).trans (Cert.KernelIdeal.Results.out_codes m ρ c).symm

include h0 h1 h2 h3 in
/-- The gradients returned are equal. -/
theorem out_grad : Cert.ReferenceIdeal.Whole.G6 m' c
    = Cert.KernelIdeal.Run.W11 m ρ c (Proc.devRef .tc Cert.KernelIdeal.main_v33) := by
  refine Eq.trans ?_ (Cert.KernelIdeal.Results.out_grad m ρ c).symm
  funext i
  rw [Cert.ReferenceIdeal.Results.out_grad, codes_eq m ρ m' c h2, scale_eq m ρ m' c h2, h0, h1, h3]
  exact congrArg (fun x : EReal => FloatOps.addf (F := Ideal) (φ := .f32)
      (m ((c.tc : Thread Cert.KernelIdeal.nD Cert.KernelIdeal.τ).loc Cert.KernelIdeal.main_arg3) i)
      (FloatOps.mulf (F := Ideal) (φ := .f32) x (FloatOps.mulf (F := Ideal) (φ := .f32)
        (m ((c.tc : Thread Cert.KernelIdeal.nD Cert.KernelIdeal.τ).loc Cert.KernelIdeal.main_arg1) ix0) (Cert.KernelIdeal.Results.scale m ρ c))))
    (Cert.KernelIdeal.Results.sum_tokens _ _ (i 0) (i 1)).symm

end

/-- The value claim, over all three results. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Run.W11 m g c (Proc.devRef .tc Cert.KernelIdeal.main_v33),
    fun c => Cert.KernelIdeal.Run.W11 m g c (Proc.devRef .tc Cert.KernelIdeal.main_v34),
    fun c => Cert.KernelIdeal.Run.W11 m g c (Proc.devRef .tc Cert.KernelIdeal.main_v24),
    Cert.KernelIdeal.Results.run m g, ?_⟩
  refine (θ_run _ _ _).mono (fun r hr c => ?_) (Cert.ReferenceIdeal.Whole.run m' g')
  obtain ⟨h0, h1, h2, h3⟩ := h c
  obtain ⟨r0, r1, r2, ra⟩ := hr c
  exact ⟨r0.trans (out_grad m g m' c h0 h1 h2 h3), r1.trans (out_codes m g m' c h2), r2.trans (out_scale m g m' c h2), ra⟩

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claim. -/
theorem claim : Cert.Claim :=
  ⟨Cert.Kernel.Gen.facts, Cert.KernelIdeal.Gen.facts, Cert.ReferenceIdeal.Gen.facts,
    fun m ρ _ => Cert.Kernel.Run.frame m ρ,
    fun m ρ _ => Cert.KernelIdeal.Run.frame m ρ,
    fun m ρ _ => Cert.ReferenceIdeal.Gen.frame m ρ,
    trivial,
    Cert.Algebraic.algebraic⟩

end Cert.Proof

end
